-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelReferenceIdeal (m : (ℓ : Loc Cert.ChannelReferenceIdeal.nD Cert.ChannelReferenceIdeal.τ Cert.ChannelReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4)
      ∧ r.2.mem ((c.tc : Thread Cert.Channel.nD Cert.Channel.τ).loc Cert.Channel.main_arg5) = m ((c.tc : Thread Cert.Channel.nD Cert.Channel.τ).loc Cert.Channel.main_arg5)
      ∧ r.2.mem ((c.tc : Thread Cert.Channel.nD Cert.Channel.τ).loc Cert.Channel.main_arg6) = m ((c.tc : Thread Cert.Channel.nD Cert.Channel.τ).loc Cert.Channel.main_arg6)
      ∧ r.2.mem ((c.tc : Thread Cert.Channel.nD Cert.Channel.τ).loc Cert.Channel.main_arg7) = m ((c.tc : Thread Cert.Channel.nD Cert.Channel.τ).loc Cert.Channel.main_arg7)
      ∧ r.2.mem ((c.tc : Thread Cert.Channel.nD Cert.Channel.τ).loc Cert.Channel.main_arg8) = m ((c.tc : Thread Cert.Channel.nD Cert.Channel.τ).loc Cert.Channel.main_arg8)
      ∧ r.2.mem ((c.tc : Thread Cert.Channel.nD Cert.Channel.τ).loc Cert.Channel.main_arg9) = m ((c.tc : Thread Cert.Channel.nD Cert.Channel.τ).loc Cert.Channel.main_arg9)
      ∧ r.2.mem ((c.tc : Thread Cert.Channel.nD Cert.Channel.τ).loc Cert.Channel.main_arg10) = m ((c.tc : Thread Cert.Channel.nD Cert.Channel.τ).loc Cert.Channel.main_arg10)
      ∧ r.2.mem ((c.tc : Thread Cert.Channel.nD Cert.Channel.τ).loc Cert.Channel.main_arg11) = m ((c.tc : Thread Cert.Channel.nD Cert.Channel.τ).loc Cert.Channel.main_arg11)
      ∧ r.2.mem ((c.tc : Thread Cert.Channel.nD Cert.Channel.τ).loc Cert.Channel.main_arg12) = m ((c.tc : Thread Cert.Channel.nD Cert.Channel.τ).loc Cert.Channel.main_arg12)
      ∧ r.2.mem ((c.tc : Thread Cert.Channel.nD Cert.Channel.τ).loc Cert.Channel.main_arg13) = m ((c.tc : Thread Cert.Channel.nD Cert.Channel.τ).loc Cert.Channel.main_arg13))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
      ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
      ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
      ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
      ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
      ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13))
      ∧ r.2.sem = fun _ => 0)

def quiescent_ChannelReferenceIdeal [hChannelReferenceIdeal : Cert.ChannelReferenceIdeal.Facts] : Prop :=
  ∀ (m : (ℓ : Loc Cert.ChannelReferenceIdeal.nD Cert.ChannelReferenceIdeal.τ Cert.ChannelReferenceIdeal.sig) → Buf (Elt Ideal) ℓ) (g : Dev Cert.ChannelReferenceIdeal.nD → PrngReg), Pre_ChannelReferenceIdeal m →
    θ_run (Cert.ChannelReferenceIdeal.defs (F := Ideal)) (onTc (τ := Cert.ChannelReferenceIdeal.τ) (Cert.ChannelReferenceIdeal.main (F := Ideal))) ⟨m, fun _ => 0, g⟩ (fun r => (∀ c : Dev Cert.ChannelReferenceIdeal.nD,
      r.2.mem ((c.tc : Thread Cert.ChannelReferenceIdeal.nD Cert.ChannelReferenceIdeal.τ).loc Cert.ChannelReferenceIdeal.main_arg0) = m ((c.tc : Thread Cert.ChannelReferenceIdeal.nD Cert.ChannelReferenceIdeal.τ).loc Cert.ChannelReferenceIdeal.main_arg0)
      ∧ r.2.mem ((c.tc : Thread Cert.ChannelReferenceIdeal.nD Cert.ChannelReferenceIdeal.τ).loc Cert.ChannelReferenceIdeal.main_arg1) = m ((c.tc : Thread Cert.ChannelReferenceIdeal.nD Cert.ChannelReferenceIdeal.τ).loc Cert.ChannelReferenceIdeal.main_arg1)
      ∧ r.2.mem ((c.tc : Thread Cert.ChannelReferenceIdeal.nD Cert.ChannelReferenceIdeal.τ).loc Cert.ChannelReferenceIdeal.main_arg2) = m ((c.tc : Thread Cert.ChannelReferenceIdeal.nD Cert.ChannelReferenceIdeal.τ).loc Cert.ChannelReferenceIdeal.main_arg2)
      ∧ r.2.mem ((c.tc : Thread Cert.ChannelReferenceIdeal.nD Cert.ChannelReferenceIdeal.τ).loc Cert.ChannelReferenceIdeal.main_arg3) = m ((c.tc : Thread Cert.ChannelReferenceIdeal.nD Cert.ChannelReferenceIdeal.τ).loc Cert.ChannelReferenceIdeal.main_arg3)
      ∧ r.2.mem ((c.tc : Thread Cert.ChannelReferenceIdeal.nD Cert.ChannelReferenceIdeal.τ).loc Cert.ChannelReferenceIdeal.main_arg4) = m ((c.tc : Thread Cert.ChannelReferenceIdeal.nD Cert.ChannelReferenceIdeal.τ).loc Cert.ChannelReferenceIdeal.main_arg4)
      ∧ r.2.mem ((c.tc : Thread Cert.ChannelReferenceIdeal.nD Cert.ChannelReferenceIdeal.τ).loc Cert.ChannelReferenceIdeal.main_arg5) = m ((c.tc : Thread Cert.ChannelReferenceIdeal.nD Cert.ChannelReferenceIdeal.τ).loc Cert.ChannelReferenceIdeal.main_arg5)
      ∧ r.2.mem ((c.tc : Thread Cert.ChannelReferenceIdeal.nD Cert.ChannelReferenceIdeal.τ).loc Cert.ChannelReferenceIdeal.main_arg6) = m ((c.tc : Thread Cert.ChannelReferenceIdeal.nD Cert.ChannelReferenceIdeal.τ).loc Cert.ChannelReferenceIdeal.main_arg6)
      ∧ r.2.mem ((c.tc : Thread Cert.ChannelReferenceIdeal.nD Cert.ChannelReferenceIdeal.τ).loc Cert.ChannelReferenceIdeal.main_arg7) = m ((c.tc : Thread Cert.ChannelReferenceIdeal.nD Cert.ChannelReferenceIdeal.τ).loc Cert.ChannelReferenceIdeal.main_arg7)
      ∧ r.2.mem ((c.tc : Thread Cert.ChannelReferenceIdeal.nD Cert.ChannelReferenceIdeal.τ).loc Cert.ChannelReferenceIdeal.main_arg8) = m ((c.tc : Thread Cert.ChannelReferenceIdeal.nD Cert.ChannelReferenceIdeal.τ).loc Cert.ChannelReferenceIdeal.main_arg8)
      ∧ r.2.mem ((c.tc : Thread Cert.ChannelReferenceIdeal.nD Cert.ChannelReferenceIdeal.τ).loc Cert.ChannelReferenceIdeal.main_arg9) = m ((c.tc : Thread Cert.ChannelReferenceIdeal.nD Cert.ChannelReferenceIdeal.τ).loc Cert.ChannelReferenceIdeal.main_arg9)
      ∧ r.2.mem ((c.tc : Thread Cert.ChannelReferenceIdeal.nD Cert.ChannelReferenceIdeal.τ).loc Cert.ChannelReferenceIdeal.main_arg10) = m ((c.tc : Thread Cert.ChannelReferenceIdeal.nD Cert.ChannelReferenceIdeal.τ).loc Cert.ChannelReferenceIdeal.main_arg10)
      ∧ r.2.mem ((c.tc : Thread Cert.ChannelReferenceIdeal.nD Cert.ChannelReferenceIdeal.τ).loc Cert.ChannelReferenceIdeal.main_arg11) = m ((c.tc : Thread Cert.ChannelReferenceIdeal.nD Cert.ChannelReferenceIdeal.τ).loc Cert.ChannelReferenceIdeal.main_arg11)
      ∧ r.2.mem ((c.tc : Thread Cert.ChannelReferenceIdeal.nD Cert.ChannelReferenceIdeal.τ).loc Cert.ChannelReferenceIdeal.main_arg12) = m ((c.tc : Thread Cert.ChannelReferenceIdeal.nD Cert.ChannelReferenceIdeal.τ).loc Cert.ChannelReferenceIdeal.main_arg12)
      ∧ r.2.mem ((c.tc : Thread Cert.ChannelReferenceIdeal.nD Cert.ChannelReferenceIdeal.τ).loc Cert.ChannelReferenceIdeal.main_arg13) = m ((c.tc : Thread Cert.ChannelReferenceIdeal.nD Cert.ChannelReferenceIdeal.τ).loc Cert.ChannelReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Channel_ChannelIdeal : Prop :=
  True

def algebraic_ChannelIdeal_ChannelReferenceIdeal [hChannelIdeal : Cert.ChannelIdeal.Facts] [hChannelReferenceIdeal : Cert.ChannelReferenceIdeal.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelReferenceIdeal.nD Cert.ChannelReferenceIdeal.τ Cert.ChannelReferenceIdeal.sig) → Buf (Elt Ideal) ℓ) (g' : Dev Cert.ChannelReferenceIdeal.nD → PrngReg), Pre_ChannelIdeal m →
    (∀ c : Dev Cert.ChannelIdeal.nD,
      m' ((c.tc : Thread Cert.ChannelReferenceIdeal.nD Cert.ChannelReferenceIdeal.τ).loc Cert.ChannelReferenceIdeal.main_arg0) = m ((c.tc : Thread Cert.ChannelIdeal.nD Cert.ChannelIdeal.τ).loc Cert.ChannelIdeal.main_arg0)
      ∧ m' ((c.tc : Thread Cert.ChannelReferenceIdeal.nD Cert.ChannelReferenceIdeal.τ).loc Cert.ChannelReferenceIdeal.main_arg1) = m ((c.tc : Thread Cert.ChannelIdeal.nD Cert.ChannelIdeal.τ).loc Cert.ChannelIdeal.main_arg1)
      ∧ m' ((c.tc : Thread Cert.ChannelReferenceIdeal.nD Cert.ChannelReferenceIdeal.τ).loc Cert.ChannelReferenceIdeal.main_arg2) = m ((c.tc : Thread Cert.ChannelIdeal.nD Cert.ChannelIdeal.τ).loc Cert.ChannelIdeal.main_arg2)
      ∧ m' ((c.tc : Thread Cert.ChannelReferenceIdeal.nD Cert.ChannelReferenceIdeal.τ).loc Cert.ChannelReferenceIdeal.main_arg3) = m ((c.tc : Thread Cert.ChannelIdeal.nD Cert.ChannelIdeal.τ).loc Cert.ChannelIdeal.main_arg3)
      ∧ m' ((c.tc : Thread Cert.ChannelReferenceIdeal.nD Cert.ChannelReferenceIdeal.τ).loc Cert.ChannelReferenceIdeal.main_arg4) = m ((c.tc : Thread Cert.ChannelIdeal.nD Cert.ChannelIdeal.τ).loc Cert.ChannelIdeal.main_arg4)
      ∧ m' ((c.tc : Thread Cert.ChannelReferenceIdeal.nD Cert.ChannelReferenceIdeal.τ).loc Cert.ChannelReferenceIdeal.main_arg5) = m ((c.tc : Thread Cert.ChannelIdeal.nD Cert.ChannelIdeal.τ).loc Cert.ChannelIdeal.main_arg5)
      ∧ m' ((c.tc : Thread Cert.ChannelReferenceIdeal.nD Cert.ChannelReferenceIdeal.τ).loc Cert.ChannelReferenceIdeal.main_arg6) = m ((c.tc : Thread Cert.ChannelIdeal.nD Cert.ChannelIdeal.τ).loc Cert.ChannelIdeal.main_arg6)
      ∧ m' ((c.tc : Thread Cert.ChannelReferenceIdeal.nD Cert.ChannelReferenceIdeal.τ).loc Cert.ChannelReferenceIdeal.main_arg7) = m ((c.tc : Thread Cert.ChannelIdeal.nD Cert.ChannelIdeal.τ).loc Cert.ChannelIdeal.main_arg7)
      ∧ m' ((c.tc : Thread Cert.ChannelReferenceIdeal.nD Cert.ChannelReferenceIdeal.τ).loc Cert.ChannelReferenceIdeal.main_arg8) = m ((c.tc : Thread Cert.ChannelIdeal.nD Cert.ChannelIdeal.τ).loc Cert.ChannelIdeal.main_arg8)
      ∧ m' ((c.tc : Thread Cert.ChannelReferenceIdeal.nD Cert.ChannelReferenceIdeal.τ).loc Cert.ChannelReferenceIdeal.main_arg9) = m ((c.tc : Thread Cert.ChannelIdeal.nD Cert.ChannelIdeal.τ).loc Cert.ChannelIdeal.main_arg9)
      ∧ m' ((c.tc : Thread Cert.ChannelReferenceIdeal.nD Cert.ChannelReferenceIdeal.τ).loc Cert.ChannelReferenceIdeal.main_arg10) = m ((c.tc : Thread Cert.ChannelIdeal.nD Cert.ChannelIdeal.τ).loc Cert.ChannelIdeal.main_arg10)
      ∧ m' ((c.tc : Thread Cert.ChannelReferenceIdeal.nD Cert.ChannelReferenceIdeal.τ).loc Cert.ChannelReferenceIdeal.main_arg11) = m ((c.tc : Thread Cert.ChannelIdeal.nD Cert.ChannelIdeal.τ).loc Cert.ChannelIdeal.main_arg11)
      ∧ m' ((c.tc : Thread Cert.ChannelReferenceIdeal.nD Cert.ChannelReferenceIdeal.τ).loc Cert.ChannelReferenceIdeal.main_arg12) = m ((c.tc : Thread Cert.ChannelIdeal.nD Cert.ChannelIdeal.τ).loc Cert.ChannelIdeal.main_arg12)
      ∧ m' ((c.tc : Thread Cert.ChannelReferenceIdeal.nD Cert.ChannelReferenceIdeal.τ).loc Cert.ChannelReferenceIdeal.main_arg13) = m ((c.tc : Thread Cert.ChannelIdeal.nD Cert.ChannelIdeal.τ).loc Cert.ChannelIdeal.main_arg13)) →
    ∃ (v0 : (c : Dev Cert.ChannelIdeal.nD) → Buf (Elt Ideal) ((c.tc : Thread Cert.ChannelIdeal.nD Cert.ChannelIdeal.τ).loc Cert.ChannelIdeal.main_v20)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v20) = v0 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
          ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
          ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
          ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
          ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
          ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
          ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
          ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
          ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
          ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13))
      ∧ θ_run (Cert.ChannelReferenceIdeal.defs (F := Ideal)) (onTc (τ := Cert.ChannelReferenceIdeal.τ) (Cert.ChannelReferenceIdeal.main (F := Ideal))) ⟨m', fun _ => 0, g'⟩ (fun r => ∀ c : Dev Cert.ChannelReferenceIdeal.nD,
          r.2.mem ((c.tc : Thread Cert.ChannelReferenceIdeal.nD Cert.ChannelReferenceIdeal.τ).loc Cert.ChannelReferenceIdeal.main_v76) = v0 c
          ∧ r.2.mem ((c.tc : Thread Cert.ChannelReferenceIdeal.nD Cert.ChannelReferenceIdeal.τ).loc Cert.ChannelReferenceIdeal.main_arg0) = m' ((c.tc : Thread Cert.ChannelReferenceIdeal.nD Cert.ChannelReferenceIdeal.τ).loc Cert.ChannelReferenceIdeal.main_arg0)
          ∧ r.2.mem ((c.tc : Thread Cert.ChannelReferenceIdeal.nD Cert.ChannelReferenceIdeal.τ).loc Cert.ChannelReferenceIdeal.main_arg1) = m' ((c.tc : Thread Cert.ChannelReferenceIdeal.nD Cert.ChannelReferenceIdeal.τ).loc Cert.ChannelReferenceIdeal.main_arg1)
          ∧ r.2.mem ((c.tc : Thread Cert.ChannelReferenceIdeal.nD Cert.ChannelReferenceIdeal.τ).loc Cert.ChannelReferenceIdeal.main_arg2) = m' ((c.tc : Thread Cert.ChannelReferenceIdeal.nD Cert.ChannelReferenceIdeal.τ).loc Cert.ChannelReferenceIdeal.main_arg2)
          ∧ r.2.mem ((c.tc : Thread Cert.ChannelReferenceIdeal.nD Cert.ChannelReferenceIdeal.τ).loc Cert.ChannelReferenceIdeal.main_arg3) = m' ((c.tc : Thread Cert.ChannelReferenceIdeal.nD Cert.ChannelReferenceIdeal.τ).loc Cert.ChannelReferenceIdeal.main_arg3)
          ∧ r.2.mem ((c.tc : Thread Cert.ChannelReferenceIdeal.nD Cert.ChannelReferenceIdeal.τ).loc Cert.ChannelReferenceIdeal.main_arg4) = m' ((c.tc : Thread Cert.ChannelReferenceIdeal.nD Cert.ChannelReferenceIdeal.τ).loc Cert.ChannelReferenceIdeal.main_arg4)
          ∧ r.2.mem ((c.tc : Thread Cert.ChannelReferenceIdeal.nD Cert.ChannelReferenceIdeal.τ).loc Cert.ChannelReferenceIdeal.main_arg5) = m' ((c.tc : Thread Cert.ChannelReferenceIdeal.nD Cert.ChannelReferenceIdeal.τ).loc Cert.ChannelReferenceIdeal.main_arg5)
          ∧ r.2.mem ((c.tc : Thread Cert.ChannelReferenceIdeal.nD Cert.ChannelReferenceIdeal.τ).loc Cert.ChannelReferenceIdeal.main_arg6) = m' ((c.tc : Thread Cert.ChannelReferenceIdeal.nD Cert.ChannelReferenceIdeal.τ).loc Cert.ChannelReferenceIdeal.main_arg6)
          ∧ r.2.mem ((c.tc : Thread Cert.ChannelReferenceIdeal.nD Cert.ChannelReferenceIdeal.τ).loc Cert.ChannelReferenceIdeal.main_arg7) = m' ((c.tc : Thread Cert.ChannelReferenceIdeal.nD Cert.ChannelReferenceIdeal.τ).loc Cert.ChannelReferenceIdeal.main_arg7)
          ∧ r.2.mem ((c.tc : Thread Cert.ChannelReferenceIdeal.nD Cert.ChannelReferenceIdeal.τ).loc Cert.ChannelReferenceIdeal.main_arg8) = m' ((c.tc : Thread Cert.ChannelReferenceIdeal.nD Cert.ChannelReferenceIdeal.τ).loc Cert.ChannelReferenceIdeal.main_arg8)
          ∧ r.2.mem ((c.tc : Thread Cert.ChannelReferenceIdeal.nD Cert.ChannelReferenceIdeal.τ).loc Cert.ChannelReferenceIdeal.main_arg9) = m' ((c.tc : Thread Cert.ChannelReferenceIdeal.nD Cert.ChannelReferenceIdeal.τ).loc Cert.ChannelReferenceIdeal.main_arg9)
          ∧ r.2.mem ((c.tc : Thread Cert.ChannelReferenceIdeal.nD Cert.ChannelReferenceIdeal.τ).loc Cert.ChannelReferenceIdeal.main_arg10) = m' ((c.tc : Thread Cert.ChannelReferenceIdeal.nD Cert.ChannelReferenceIdeal.τ).loc Cert.ChannelReferenceIdeal.main_arg10)
          ∧ r.2.mem ((c.tc : Thread Cert.ChannelReferenceIdeal.nD Cert.ChannelReferenceIdeal.τ).loc Cert.ChannelReferenceIdeal.main_arg11) = m' ((c.tc : Thread Cert.ChannelReferenceIdeal.nD Cert.ChannelReferenceIdeal.τ).loc Cert.ChannelReferenceIdeal.main_arg11)
          ∧ r.2.mem ((c.tc : Thread Cert.ChannelReferenceIdeal.nD Cert.ChannelReferenceIdeal.τ).loc Cert.ChannelReferenceIdeal.main_arg12) = m' ((c.tc : Thread Cert.ChannelReferenceIdeal.nD Cert.ChannelReferenceIdeal.τ).loc Cert.ChannelReferenceIdeal.main_arg12)
          ∧ r.2.mem ((c.tc : Thread Cert.ChannelReferenceIdeal.nD Cert.ChannelReferenceIdeal.τ).loc Cert.ChannelReferenceIdeal.main_arg13) = m' ((c.tc : Thread Cert.ChannelReferenceIdeal.nD Cert.ChannelReferenceIdeal.τ).loc Cert.ChannelReferenceIdeal.main_arg13))

def Claim : Prop :=
  ∃ (hKernel : Cert.Kernel.Facts) (hKernelIdeal : Cert.KernelIdeal.Facts) (hReferenceIdeal : Cert.ReferenceIdeal.Facts) (hChannel : Cert.Channel.Facts) (hChannelIdeal : Cert.ChannelIdeal.Facts) (hChannelReferenceIdeal : Cert.ChannelReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Channel (hChannel := hChannel)
    ∧ quiescent_ChannelIdeal (hChannelIdeal := hChannelIdeal)
    ∧ quiescent_ChannelReferenceIdeal (hChannelReferenceIdeal := hChannelReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Channel_ChannelIdeal
    ∧ algebraic_ChannelIdeal_ChannelReferenceIdeal (hChannelIdeal := hChannelIdeal) (hChannelReferenceIdeal := hChannelReferenceIdeal)
-- ==== Pre_finite.lean ====
abbrev S4x8192x16x64 : Shape := ⟨4, ![4, 8192, 16, 64]⟩
abbrev S4x256x16x64 : Shape := ⟨4, ![4, 256, 16, 64]⟩
abbrev S16x15x31 : Shape := ⟨3, ![16, 15, 31]⟩
abbrev S64 : Shape := ⟨1, ![64]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel
  bcast_S_S4x256x16x64 : S_.BroadcastsInDim S4x256x16x64 (![] : Fin 0 → Fin S4x256x16x64.rank)
  reducesTo_S4x256x16x64_S_d0_1_2_3 : S4x256x16x64.ReducesTo [0, 1, 2, 3] S_
  bcast_S_S16x15x31 : S_.BroadcastsInDim S16x15x31 (![] : Fin 0 → Fin S16x15x31.rank)
  reducesTo_S16x15x31_S_d0_1_2 : S16x15x31.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S16x15x31 1) : IVec S_ 1 :=
  let main_c_5 : IVec S_ 1 := constantI S_ 1 1#1
  let main_v17 : IVec S_ 1 := (fun x v => Host.reduce IntOp.andi x v reducesTo_S16x15x31_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4x8192x16x64 .f32) (main_arg1 : FVec F S4x8192x16x64 .f32) (main_arg2 : FVec F S4x8192x16x64 .f32) (main_arg3 : FVec F S4x256x16x64 .f32) (main_arg4 : FVec F S4x256x16x64 .f32) (main_arg5 : FVec F S16x15x31 .f32) (main_arg6 : FVec F S64 .f32) (main_arg7 : FVec F S64 .f32) : IVec S_ 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_c : IVec S_ 1 := constantI S_ 1 1#1
  let main_v3 : IVec S_ 1 := (fun x v => Host.reduce IntOp.andi x v reducesTo_S4x8192x16x64_S_d0_1_2_3 h_S_) main_v2 main_c
  let main_v4 : FVec F S4x8192x16x64 .f32 := Host.absf main_arg1
  let main_cst_0 : FVec F S_ .f32 := constant S_ .f32 0x7F800000#32
  let main_v5 : FVec F S4x8192x16x64 .f32 := broadcastInDim S4x8192x16x64 ![] bcast_S_S4x8192x16x64 main_cst_0
  let main_v6 : IVec S4x8192x16x64 1 := cmpf .olt main_v4 main_v5
  let main_c_1 : IVec S_ 1 := constantI S_ 1 1#1
  let main_v7 : IVec S_ 1 := (fun x v => Host.reduce IntOp.andi x v reducesTo_S4x8192x16x64_S_d0_1_2_3 h_S_) main_v6 main_c_1
  let main_v8 : IVec S_ 1 := andi main_v3 main_v7
  let main_v9 : FVec F S4x256x16x64 .f32 := Host.absf main_arg3
  let main_cst_2 : FVec F S_ .f32 := constant S_ .f32 0x7F800000#32
  let main_v10 : FVec F S4x256x16x64 .f32 := broadcastInDim S4x256x16x64 ![] bcast_S_S4x256x16x64 main_cst_2
  let main_v11 : IVec S4x256x16x64 1 := cmpf .olt main_v9 main_v10
  let main_c_3 : IVec S_ 1 := constantI S_ 1 1#1
  let main_v12 : IVec S_ 1 := (fun x v => Host.reduce IntOp.andi x v reducesTo_S4x256x16x64_S_d0_1_2_3 h_S_) main_v11 main_c_3
  let main_v13 : IVec S_ 1 := andi main_v8 main_v12
  let main_v14 : FVec F S16x15x31 .f32 := Host.absf main_arg5
  let main_cst_4 : FVec F S_ .f32 := constant S_ .f32 0x7F800000#32
  let main_v15 : FVec F S16x15x31 .f32 := broadcastInDim S16x15x31 ![] bcast_S_S16x15x31 main_cst_4
  let main_v16 : IVec S16x15x31 1 := cmpf .olt main_v14 main_v15
  fn_part1 (F := F) main_arg6 main_arg7 main_v13 main_v16
-- ==== Kernel.lean ====
abbrev S4x8192x16x64 : Shape := ⟨4, ![4, 8192, 16, 64]⟩
abbrev S4x256x16x64 : Shape := ⟨4, ![4, 256, 16, 64]⟩
abbrev S16x15x31 : Shape := ⟨3, ![16, 15, 31]⟩
abbrev S64 : Shape := ⟨1, ![64]⟩
abbrev S_ : Shape := ⟨0, ![]⟩
abbrev S32768x1024 : Shape := ⟨2, ![32768, 1024]⟩
abbrev S32768x3072 : Shape := ⟨2, ![32768, 3072]⟩
abbrev S32768x8192 : Shape := ⟨2, ![32768, 8192]⟩
abbrev S1024x1024 : Shape := ⟨2, ![1024, 1024]⟩
abbrev S1024x2048 : Shape := ⟨2, ![1024, 2048]⟩
abbrev S1024x8192 : Shape := ⟨2, ![1024, 8192]⟩
abbrev S3x256x704 : Shape := ⟨3, ![3, 256, 704]⟩
abbrev S1x3x256x704 : Shape := ⟨4, ![1, 3, 256, 704]⟩
abbrev S3x256x704x1 : Shape := ⟨4, ![3, 256, 704, 1]⟩
abbrev S3x256x704x2 : Shape := ⟨4, ![3, 256, 704, 2]⟩
abbrev S16x3x256x704 : Shape := ⟨4, ![16, 3, 256, 704]⟩
abbrev S3x16x256x704 : Shape := ⟨4, ![3, 16, 256, 704]⟩
abbrev S1x128 : Shape := ⟨2, ![1, 128]⟩
abbrev S4096x128 : Shape := ⟨2, ![4096, 128]⟩
abbrev S8192x128 : Shape := ⟨2, ![8192, 128]⟩
abbrev S256x128 : Shape := ⟨2, ![256, 128]⟩
abbrev S1x2x256x704 : Shape := ⟨4, ![1, 2, 256, 704]⟩
abbrev S1x1 : Shape := ⟨2, ![1, 1]⟩
abbrev S704x128 : Shape := ⟨2, ![704, 128]⟩
abbrev S256x704 : Shape := ⟨2, ![256, 704]⟩
abbrev S1x1x256x704 : Shape := ⟨4, ![1, 1, 256, 704]⟩
abbrev S256x256 : Shape := ⟨2, ![256, 256]⟩
abbrev S256x1 : Shape := ⟨2, ![256, 1]⟩

abbrev nBuf : Space → Nat
  | .hbm => 201
  | .vmem => 19
  | .smem => 0
  | _ => 0

abbrev hbmTy0_0 (i : Nat) : BufTy := match i % 128 with
  | 0 => ⟨S4x8192x16x64, .f32⟩
  | 1 => ⟨S4x8192x16x64, .f32⟩
  | 2 => ⟨S4x8192x16x64, .f32⟩
  | 3 => ⟨S4x256x16x64, .f32⟩
  | 4 => ⟨S4x256x16x64, .f32⟩
  | 5 => ⟨S16x15x31, .f32⟩
  | 6 => ⟨S64, .f32⟩
  | 7 => ⟨S64, .f32⟩
  | 8 => ⟨S_, .f32⟩
  | 9 => ⟨S_, .f32⟩
  | 10 => ⟨S_, .f32⟩
  | 11 => ⟨S_, .f32⟩
  | 12 => ⟨S4x8192x16x64, .f32⟩
  | 13 => ⟨S4x8192x16x64, .f32⟩
  | 14 => ⟨S32768x1024, .f32⟩
  | 15 => ⟨S32768x1024, .f32⟩
  | 16 => ⟨S32768x1024, .f32⟩
  | 17 => ⟨S32768x3072, .f32⟩
  | 18 => ⟨S_, .i32⟩
  | 19 => ⟨S_, .f32⟩
  | 20 => ⟨S32768x8192, .f32⟩
  | 21 => ⟨S32768x8192, .bf16⟩
  | 22 => ⟨S1024x1024, .f32⟩
  | 23 => ⟨S1024x1024, .f32⟩
  | 24 => ⟨S1024x2048, .f32⟩
  | 25 => ⟨S_, .i32⟩
  | 26 => ⟨S_, .f32⟩
  | 27 => ⟨S1024x8192, .f32⟩
  | 28 => ⟨S1024x8192, .bf16⟩
  | 29 => ⟨S64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S64, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .i1⟩
  | 61 => ⟨S_, .f32⟩
  | 62 => ⟨S_, .f32⟩
  | 63 => ⟨S_, .f32⟩
  | 64 => ⟨S3x256x704, .i32⟩
  | 65 => ⟨S3x256x704, .i32⟩
  | 66 => ⟨S3x256x704, .i32⟩
  | 67 => ⟨S_, .i32⟩
  | 68 => ⟨S3x256x704, .i32⟩
  | 69 => ⟨S3x256x704, .i1⟩
  | 70 => ⟨S_, .i32⟩
  | 71 => ⟨S_, .i32⟩
  | 72 => ⟨S3x256x704, .i32⟩
  | 73 => ⟨S3x256x704, .i32⟩
  | 74 => ⟨S_, .i32⟩
  | 75 => ⟨S3x256x704, .i32⟩
  | 76 => ⟨S3x256x704, .i32⟩
  | 77 => ⟨S_, .i32⟩
  | 78 => ⟨S3x256x704, .i32⟩
  | 79 => ⟨S3x256x704, .i32⟩
  | 80 => ⟨S3x256x704, .i32⟩
  | 81 => ⟨S_, .i32⟩
  | 82 => ⟨S3x256x704, .i32⟩
  | 83 => ⟨S3x256x704, .i32⟩
  | 84 => ⟨S_, .i32⟩
  | 85 => ⟨S3x256x704, .i32⟩
  | 86 => ⟨S3x256x704, .i32⟩
  | 87 => ⟨S_, .i32⟩
  | 88 => ⟨S_, .i32⟩
  | 89 => ⟨S_, .i32⟩
  | 90 => ⟨S3x256x704, .i32⟩
  | 91 => ⟨S3x256x704, .i32⟩
  | 92 => ⟨S_, .i32⟩
  | 93 => ⟨S3x256x704, .i32⟩
  | 94 => ⟨S3x256x704, .i32⟩
  | 95 => ⟨S_, .i32⟩
  | 96 => ⟨S3x256x704, .i32⟩
  | 97 => ⟨S3x256x704, .i32⟩
  | 98 => ⟨S3x256x704, .i32⟩
  | 99 => ⟨S_, .i32⟩
  | 100 => ⟨S3x256x704, .i32⟩
  | 101 => ⟨S3x256x704, .i32⟩
  | 102 => ⟨S_, .i32⟩
  | 103 => ⟨S3x256x704, .i32⟩
  | 104 => ⟨S3x256x704, .i32⟩
  | 105 => ⟨S_, .i32⟩
  | 106 => ⟨S3x256x704, .i32⟩
  | 107 => ⟨S3x256x704, .i32⟩
  | 108 => ⟨S_, .i32⟩
  | 109 => ⟨S_, .i32⟩
  | 110 => ⟨S_, .i32⟩
  | 111 => ⟨S3x256x704, .i32⟩
  | 112 => ⟨S3x256x704, .i32⟩
  | 113 => ⟨S_, .i32⟩
  | 114 => ⟨S3x256x704, .i32⟩
  | 115 => ⟨S3x256x704, .i32⟩
  | 116 => ⟨S_, .i32⟩
  | 117 => ⟨S3x256x704, .i32⟩
  | 118 => ⟨S3x256x704, .i32⟩
  | 119 => ⟨S_, .i32⟩
  | 120 => ⟨S_, .i32⟩
  | 121 => ⟨S_, .i32⟩
  | 122 => ⟨S3x256x704, .i32⟩
  | 123 => ⟨S3x256x704, .i32⟩
  | 124 => ⟨S_, .i32⟩
  | 125 => ⟨S3x256x704, .i32⟩
  | 126 => ⟨S3x256x704, .i32⟩
  | 127 => ⟨S3x256x704, .i1⟩
  | _ => ⟨S4x8192x16x64, .f32⟩

abbrev hbmTy0_1 (i : Nat) : BufTy := match i % 128 with
  | 0 => ⟨S_, .i32⟩
  | 1 => ⟨S3x256x704, .i32⟩
  | 2 => ⟨S3x256x704, .i32⟩
  | 3 => ⟨S3x256x704, .i1⟩
  | 4 => ⟨S3x256x704, .i1⟩
  | 5 => ⟨S3x256x704, .i1⟩
  | 6 => ⟨S3x256x704, .i1⟩
  | 7 => ⟨S_, .i32⟩
  | 8 => ⟨S3x256x704, .i32⟩
  | 9 => ⟨S3x256x704, .i32⟩
  | 10 => ⟨S3x256x704, .i1⟩
  | 11 => ⟨S3x256x704, .i1⟩
  | 12 => ⟨S3x256x704, .i32⟩
  | 13 => ⟨S_, .i32⟩
  | 14 => ⟨S3x256x704, .i32⟩
  | 15 => ⟨S3x256x704, .i32⟩
  | 16 => ⟨S_, .i32⟩
  | 17 => ⟨S3x256x704, .i32⟩
  | 18 => ⟨S3x256x704, .i32⟩
  | 19 => ⟨S_, .i32⟩
  | 20 => ⟨S_, .i32⟩
  | 21 => ⟨S_, .i32⟩
  | 22 => ⟨S3x256x704, .i32⟩
  | 23 => ⟨S3x256x704, .i32⟩
  | 24 => ⟨S_, .i32⟩
  | 25 => ⟨S3x256x704, .i32⟩
  | 26 => ⟨S3x256x704, .i32⟩
  | 27 => ⟨S3x256x704, .i32⟩
  | 28 => ⟨S_, .i32⟩
  | 29 => ⟨S3x256x704, .i32⟩
  | 30 => ⟨S3x256x704, .i32⟩
  | 31 => ⟨S_, .i32⟩
  | 32 => ⟨S3x256x704, .i32⟩
  | 33 => ⟨S3x256x704, .i32⟩
  | 34 => ⟨S_, .i32⟩
  | 35 => ⟨S_, .i32⟩
  | 36 => ⟨S_, .i32⟩
  | 37 => ⟨S3x256x704, .i32⟩
  | 38 => ⟨S3x256x704, .i32⟩
  | 39 => ⟨S_, .i32⟩
  | 40 => ⟨S3x256x704, .i32⟩
  | 41 => ⟨S3x256x704, .i32⟩
  | 42 => ⟨S1x3x256x704, .i1⟩
  | 43 => ⟨S_, .i32⟩
  | 44 => ⟨S3x256x704, .i32⟩
  | 45 => ⟨S3x256x704, .i1⟩
  | 46 => ⟨S_, .i32⟩
  | 47 => ⟨S3x256x704, .i32⟩
  | 48 => ⟨S3x256x704, .i32⟩
  | 49 => ⟨S3x256x704, .i32⟩
  | 50 => ⟨S_, .i32⟩
  | 51 => ⟨S3x256x704, .i32⟩
  | 52 => ⟨S3x256x704, .i1⟩
  | 53 => ⟨S_, .i32⟩
  | 54 => ⟨S3x256x704, .i32⟩
  | 55 => ⟨S3x256x704, .i32⟩
  | 56 => ⟨S3x256x704, .i32⟩
  | 57 => ⟨S3x256x704x1, .i32⟩
  | 58 => ⟨S3x256x704x1, .i32⟩
  | 59 => ⟨S3x256x704x2, .i32⟩
  | 60 => ⟨S16x3x256x704, .f32⟩
  | 61 => ⟨S16x3x256x704, .f32⟩
  | 62 => ⟨S16x3x256x704, .f32⟩
  | 63 => ⟨S16x3x256x704, .f32⟩
  | 64 => ⟨S16x3x256x704, .f32⟩
  | 65 => ⟨S_, .f32⟩
  | 66 => ⟨S_, .f32⟩
  | 67 => ⟨S16x3x256x704, .i1⟩
  | 68 => ⟨S16x3x256x704, .f32⟩
  | 69 => ⟨S16x3x256x704, .f32⟩
  | 70 => ⟨S3x16x256x704, .f32⟩
  | 71 => ⟨S1x128, .f32⟩
  | 72 => ⟨S32768x1024, .bf16⟩
  | _ => ⟨S4x8192x16x64, .f32⟩

abbrev hbmTy (i : Nat) : BufTy := match i / 128 with
  | 0 => hbmTy0_0 i
  | 1 => hbmTy0_1 i
  | _ => ⟨S4x8192x16x64, .f32⟩

abbrev bufTy : (tb : Table) → Fin (tcTables nBuf tb) → BufTy
  | .hbm, ⟨i, _⟩ => hbmTy i
  | .local _ .vmem, ⟨0, _⟩ => ⟨S1x128, .f32⟩
  | .local _ .vmem, ⟨1, _⟩ => ⟨S4096x128, .bf16⟩
  | .local _ .vmem, ⟨2, _⟩ => ⟨S4096x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S1x2x256x704, .f32⟩
  | .local _ .vmem, ⟨12, _⟩ => ⟨S1x2x256x704, .f32⟩
  | .local _ .vmem, ⟨13, _⟩ => ⟨S1x2x256x704, .f32⟩
  | .local _ .vmem, ⟨14, _⟩ => ⟨S1x2x256x704, .f32⟩
  | .local _ .vmem, ⟨15, _⟩ => ⟨S1x2x256x704, .f32⟩
  | .local _ .vmem, ⟨16, _⟩ => ⟨S1x2x256x704, .f32⟩
  | .local _ .vmem, ⟨17, _⟩ => ⟨S4096x128, .bf16⟩
  | .local _ .vmem, ⟨18, _⟩ => ⟨S4096x128, .bf16⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_cst_8 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_cst_10 : Ref sig .tc := ⟨.hbm, 48, rfl⟩
abbrev main_v26 : Ref sig .tc := ⟨.hbm, 49, rfl⟩
abbrev main_cst_11 : Ref sig .tc := ⟨.hbm, 50, rfl⟩
abbrev main_v27 : Ref sig .tc := ⟨.hbm, 51, rfl⟩
abbrev main_cst_12 : Ref sig .tc := ⟨.hbm, 52, rfl⟩
abbrev main_v28 : Ref sig .tc := ⟨.hbm, 53, rfl⟩
abbrev main_cst_13 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_14 : Ref sig .tc := ⟨.hbm, 59, rfl⟩
abbrev main_v33 : Ref sig .tc := ⟨.hbm, 60, rfl⟩
abbrev main_cst_15 : Ref sig .tc := ⟨.hbm, 61, rfl⟩
abbrev main_call2_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_16 : Ref sig .tc := ⟨.hbm, 67, rfl⟩
abbrev main_v38 : Ref sig .tc := ⟨.hbm, 68, rfl⟩
abbrev main_v39 : Ref sig .tc := ⟨.hbm, 69, rfl⟩
abbrev main_c_17 : Ref sig .tc := ⟨.hbm, 70, rfl⟩
abbrev main_call3_v0 : Ref sig .tc := ⟨.hbm, 71, rfl⟩
abbrev main_call3_v1 : Ref sig .tc := ⟨.hbm, 72, rfl⟩
abbrev main_v40 : Ref sig .tc := ⟨.hbm, 73, rfl⟩
abbrev main_c_18 : Ref sig .tc := ⟨.hbm, 74, rfl⟩
abbrev main_v41 : Ref sig .tc := ⟨.hbm, 75, rfl⟩
abbrev main_v42 : Ref sig .tc := ⟨.hbm, 76, rfl⟩
abbrev main_c_19 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_20 : Ref sig .tc := ⟨.hbm, 81, rfl⟩
abbrev main_v46 : Ref sig .tc := ⟨.hbm, 82, rfl⟩
abbrev main_v47 : Ref sig .tc := ⟨.hbm, 83, rfl⟩
abbrev main_c_21 : Ref sig .tc := ⟨.hbm, 84, rfl⟩
abbrev main_v48 : Ref sig .tc := ⟨.hbm, 85, rfl⟩
abbrev main_v49 : Ref sig .tc := ⟨.hbm, 86, rfl⟩
abbrev main_c_22 : Ref sig .tc := ⟨.hbm, 87, rfl⟩
abbrev main_c_23 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v50 : Ref sig .tc := ⟨.hbm, 94, rfl⟩
abbrev main_c_24 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_25 : Ref sig .tc := ⟨.hbm, 99, rfl⟩
abbrev main_v54 : Ref sig .tc := ⟨.hbm, 100, rfl⟩
abbrev main_v55 : Ref sig .tc := ⟨.hbm, 101, rfl⟩
abbrev main_c_26 : Ref sig .tc := ⟨.hbm, 102, rfl⟩
abbrev main_v56 : Ref sig .tc := ⟨.hbm, 103, rfl⟩
abbrev main_v57 : Ref sig .tc := ⟨.hbm, 104, rfl⟩
abbrev main_c_27 : Ref sig .tc := ⟨.hbm, 105, rfl⟩
abbrev main_v58 : Ref sig .tc := ⟨.hbm, 106, rfl⟩
abbrev main_v59 : Ref sig .tc := ⟨.hbm, 107, rfl⟩
abbrev main_c_28 : Ref sig .tc := ⟨.hbm, 108, rfl⟩
abbrev main_c_29 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_v60 : Ref sig .tc := ⟨.hbm, 115, rfl⟩
abbrev main_c_30 : Ref sig .tc := ⟨.hbm, 116, rfl⟩
abbrev main_v61 : Ref sig .tc := ⟨.hbm, 117, rfl⟩
abbrev main_v62 : Ref sig .tc := ⟨.hbm, 118, rfl⟩
abbrev main_c_31 : Ref sig .tc := ⟨.hbm, 119, rfl⟩
abbrev main_c_32 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_v63 : Ref sig .tc := ⟨.hbm, 126, rfl⟩
abbrev main_v64 : Ref sig .tc := ⟨.hbm, 127, rfl⟩
abbrev main_c_33 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_c_34 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_c_35 : Ref sig .tc := ⟨.hbm, 141, rfl⟩
abbrev main_v76 : Ref sig .tc := ⟨.hbm, 142, rfl⟩
abbrev main_v77 : Ref sig .tc := ⟨.hbm, 143, rfl⟩
abbrev main_c_36 : Ref sig .tc := ⟨.hbm, 144, rfl⟩
abbrev main_v78 : Ref sig .tc := ⟨.hbm, 145, rfl⟩
abbrev main_v79 : Ref sig .tc := ⟨.hbm, 146, rfl⟩
abbrev main_c_37 : Ref sig .tc := ⟨.hbm, 147, rfl⟩
abbrev main_c_38 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_v80 : Ref sig .tc := ⟨.hbm, 154, rfl⟩
abbrev main_v81 : Ref sig .tc := ⟨.hbm, 155, rfl⟩
abbrev main_c_39 : Ref sig .tc := ⟨.hbm, 156, rfl⟩
abbrev main_v82 : Ref sig .tc := ⟨.hbm, 157, rfl⟩
abbrev main_v83 : Ref sig .tc := ⟨.hbm, 158, rfl⟩
abbrev main_c_40 : Ref sig .tc := ⟨.hbm, 159, rfl⟩
abbrev main_v84 : Ref sig .tc := ⟨.hbm, 160, rfl⟩
abbrev main_v85 : Ref sig .tc := ⟨.hbm, 161, rfl⟩
abbrev main_c_41 : Ref sig .tc := ⟨.hbm, 162, rfl⟩
abbrev main_c_42 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_v86 : Ref sig .tc := ⟨.hbm, 169, rfl⟩
abbrev main_v87 : Ref sig .tc := ⟨.hbm, 170, rfl⟩
abbrev main_c_43 : Ref sig .tc := ⟨.hbm, 171, rfl⟩
abbrev main_v88 : Ref sig .tc := ⟨.hbm, 172, rfl⟩
abbrev main_v89 : Ref sig .tc := ⟨.hbm, 173, rfl⟩
abbrev main_c_44 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_c_45 : Ref sig .tc := ⟨.hbm, 178, rfl⟩
abbrev main_v93 : Ref sig .tc := ⟨.hbm, 179, rfl⟩
abbrev main_v94 : Ref sig .tc := ⟨.hbm, 180, rfl⟩
abbrev main_c_46 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_cst_47 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 8, 2], ![false, false, false]⟩

def k0_mult1 (i : grid0.Coords) : BitVec 32 :=
  let c7488_i32 : BitVec 32 := 7488#32
  let c0_i32_12 : BitVec 32 := 0#32
  let c16_i32 : BitVec 32 := 16#32
  let arg2 : BitVec 32 := BitVec.ofNat 32 (i 2).val
  let v30 : BitVec 32 := Scalar.muli c16_i32 arg2
  let c0_i32_10 : BitVec 32 := 0#32
  let v31 : BitVec 32 := Scalar.addi v30 c0_i32_10
  let c256_i32 : BitVec 32 := 256#32
  let v32 : BitVec 32 := Scalar.muli v31 c256_i32
  let c256_i32_11 : BitVec 32 := 256#32
  let v33 : BitVec 32 := Scalar.subi v32 c256_i32_11
  let v34 : BitVec 32 := Scalar.maxsi c0_i32_12 v33
  let v35 : BitVec 32 := Scalar.minsi c7488_i32 v34
  v35
def k0_off1 (i : grid0.Coords) (c0_i32_10 : BitVec 32) : Fin 2 → Nat :=
  let c7488_i32 : BitVec 32 := 7488#32
  let c0_i32_12 : BitVec 32 := 0#32
  let c16_i32 : BitVec 32 := 16#32
  let arg2 : BitVec 32 := BitVec.ofNat 32 (i 2).val
  let v30 : BitVec 32 := Scalar.muli c16_i32 arg2
  let v31 : BitVec 32 := Scalar.addi v30 c0_i32_10
  let c256_i32 : BitVec 32 := 256#32
  let v32 : BitVec 32 := Scalar.muli v31 c256_i32
  let c256_i32_11 : BitVec 32 := 256#32
  let v33 : BitVec 32 := Scalar.subi v32 c256_i32_11
  let v34 : BitVec 32 := Scalar.maxsi c0_i32_12 v33
  let v35 : BitVec 32 := Scalar.minsi c7488_i32 v34
  let v36 : BitVec 32 := v35
  let v40 : Index := Scalar.indexCast v36
  let c0_15 : Index := 0#32
  ![v40.toNat, 0]
def k0_mult2 (i : grid0.Coords) : BitVec 32 :=
  let c7488_i32_27 : BitVec 32 := 7488#32
  let c0_i32_26 : BitVec 32 := 0#32
  let c16_i32_22 : BitVec 32 := 16#32
  let arg2 : BitVec 32 := BitVec.ofNat 32 (i 2).val
  let v48 : BitVec 32 := Scalar.muli c16_i32_22 arg2
  let c0_i32_23 : BitVec 32 := 0#32
  let v49 : BitVec 32 := Scalar.addi v48 c0_i32_23
  let c256_i32_24 : BitVec 32 := 256#32
  let v50 : BitVec 32 := Scalar.muli v49 c256_i32_24
  let c256_i32_25 : BitVec 32 := 256#32
  let v51 : BitVec 32 := Scalar.subi v50 c256_i32_25
  let v52 : BitVec 32 := Scalar.maxsi c0_i32_26 v51
  let v53 : BitVec 32 := Scalar.minsi c7488_i32_27 v52
  v53
def k0_mult3 (i : grid0.Coords) : BitVec 32 :=
  let c7488_i32_46 : BitVec 32 := 7488#32
  let c0_i32_45 : BitVec 32 := 0#32
  let c16_i32_42 : BitVec 32 := 16#32
  let arg2 : BitVec 32 := BitVec.ofNat 32 (i 2).val
  let v91 : BitVec 32 := Scalar.muli c16_i32_42 arg2
  let c1_i32 : BitVec 32 := 1#32
  let v92 : BitVec 32 := Scalar.addi v91 c1_i32
  let c256_i32_43 : BitVec 32 := 256#32
  let v93 : BitVec 32 := Scalar.muli v92 c256_i32_43
  let c256_i32_44 : BitVec 32 := 256#32
  let v94 : BitVec 32 := Scalar.subi v93 c256_i32_44
  let v95 : BitVec 32 := Scalar.maxsi c0_i32_45 v94
  let v96 : BitVec 32 := Scalar.minsi c7488_i32_46 v95
  v96
def k0_mult4 (i : grid0.Coords) : BitVec 32 :=
  let c7488_i32_67 : BitVec 32 := 7488#32
  let c0_i32_66 : BitVec 32 := 0#32
  let c16_i32_62 : BitVec 32 := 16#32
  let arg2 : BitVec 32 := BitVec.ofNat 32 (i 2).val
  let v136 : BitVec 32 := Scalar.muli c16_i32_62 arg2
  let c1_i32_63 : BitVec 32 := 1#32
  let v137 : BitVec 32 := Scalar.addi v136 c1_i32_63
  let c256_i32_64 : BitVec 32 := 256#32
  let v138 : BitVec 32 := Scalar.muli v137 c256_i32_64
  let c256_i32_65 : BitVec 32 := 256#32
  let v139 : BitVec 32 := Scalar.subi v138 c256_i32_65
  let v140 : BitVec 32 := Scalar.maxsi c0_i32_66 v139
  let v141 : BitVec 32 := Scalar.minsi c7488_i32_67 v140
  v141
def k0_mult5 (i : grid0.Coords) : BitVec 32 :=
  let c7488_i32_87 : BitVec 32 := 7488#32
  let c0_i32_86 : BitVec 32 := 0#32
  let c16_i32_83 : BitVec 32 := 16#32
  let arg2 : BitVec 32 := BitVec.ofNat 32 (i 2).val
  let v179 : BitVec 32 := Scalar.muli c16_i32_83 arg2
  let c2_i32 : BitVec 32 := 2#32
  let v180 : BitVec 32 := Scalar.addi v179 c2_i32
  let c256_i32_84 : BitVec 32 := 256#32
  let v181 : BitVec 32 := Scalar.muli v180 c256_i32_84
  let c256_i32_85 : BitVec 32 := 256#32
  let v182 : BitVec 32 := Scalar.subi v181 c256_i32_85
  let v183 : BitVec 32 := Scalar.maxsi c0_i32_86 v182
  let v184 : BitVec 32 := Scalar.minsi c7488_i32_87 v183
  v184
def k0_mult6 (i : grid0.Coords) : BitVec 32 :=
  let c7488_i32_108 : BitVec 32 := 7488#32
  let c0_i32_107 : BitVec 32 := 0#32
  let c16_i32_103 : BitVec 32 := 16#32
  let arg2 : BitVec 32 := BitVec.ofNat 32 (i 2).val
  let v224 : BitVec 32 := Scalar.muli c16_i32_103 arg2
  let c2_i32_104 : BitVec 32 := 2#32
  let v225 : BitVec 32 := Scalar.addi v224 c2_i32_104
  let c256_i32_105 : BitVec 32 := 256#32
  let v226 : BitVec 32 := Scalar.muli v225 c256_i32_105
  let c256_i32_106 : BitVec 32 := 256#32
  let v227 : BitVec 32 := Scalar.subi v226 c256_i32_106
  let v228 : BitVec 32 := Scalar.maxsi c0_i32_107 v227
  let v229 : BitVec 32 := Scalar.minsi c7488_i32_108 v228
  v229
def k0_mult7 (i : grid0.Coords) : BitVec 32 :=
  let c7488_i32_128 : BitVec 32 := 7488#32
  let c0_i32_127 : BitVec 32 := 0#32
  let c16_i32_124 : BitVec 32 := 16#32
  let arg2 : BitVec 32 := BitVec.ofNat 32 (i 2).val
  let v267 : BitVec 32 := Scalar.muli c16_i32_124 arg2
  let c3_i32 : BitVec 32 := 3#32
  let v268 : BitVec 32 := Scalar.addi v267 c3_i32
  let c256_i32_125 : BitVec 32 := 256#32
  let v269 : BitVec 32 := Scalar.muli v268 c256_i32_125
  let c256_i32_126 : BitVec 32 := 256#32
  let v270 : BitVec 32 := Scalar.subi v269 c256_i32_126
  let v271 : BitVec 32 := Scalar.maxsi c0_i32_127 v270
  let v272 : BitVec 32 := Scalar.minsi c7488_i32_128 v271
  v272
def k0_mult8 (i : grid0.Coords) : BitVec 32 :=
  let c7488_i32_149 : BitVec 32 := 7488#32
  let c0_i32_148 : BitVec 32 := 0#32
  let c16_i32_144 : BitVec 32 := 16#32
  let arg2 : BitVec 32 := BitVec.ofNat 32 (i 2).val
  let v312 : BitVec 32 := Scalar.muli c16_i32_144 arg2
  let c3_i32_145 : BitVec 32 := 3#32
  let v313 : BitVec 32 := Scalar.addi v312 c3_i32_145
  let c256_i32_146 : BitVec 32 := 256#32
  let v314 : BitVec 32 := Scalar.muli v313 c256_i32_146
  let c256_i32_147 : BitVec 32 := 256#32
  let v315 : BitVec 32 := Scalar.subi v314 c256_i32_147
  let v316 : BitVec 32 := Scalar.maxsi c0_i32_148 v315
  let v317 : BitVec 32 := Scalar.minsi c7488_i32_149 v316
  v317
def k0_mult9 (i : grid0.Coords) : BitVec 32 :=
  let c7488_i32_169 : BitVec 32 := 7488#32
  let c0_i32_168 : BitVec 32 := 0#32
  let c16_i32_165 : BitVec 32 := 16#32
  let arg2 : BitVec 32 := BitVec.ofNat 32 (i 2).val
  let v355 : BitVec 32 := Scalar.muli c16_i32_165 arg2
  let c4_i32 : BitVec 32 := 4#32
  let v356 : BitVec 32 := Scalar.addi v355 c4_i32
  let c256_i32_166 : BitVec 32 := 256#32
  let v357 : BitVec 32 := Scalar.muli v356 c256_i32_166
  let c256_i32_167 : BitVec 32 := 256#32
  let v358 : BitVec 32 := Scalar.subi v357 c256_i32_167
  let v359 : BitVec 32 := Scalar.maxsi c0_i32_168 v358
  let v360 : BitVec 32 := Scalar.minsi c7488_i32_169 v359
  v360
def k0_mult10 (i : grid0.Coords) : BitVec 32 :=
  let c7488_i32_190 : BitVec 32 := 7488#32
  let c0_i32_189 : BitVec 32 := 0#32
  let c16_i32_185 : BitVec 32 := 16#32
  let arg2 : BitVec 32 := BitVec.ofNat 32 (i 2).val
  let v400 : BitVec 32 := Scalar.muli c16_i32_185 arg2
  let c4_i32_186 : BitVec 32 := 4#32
  let v401 : BitVec 32 := Scalar.addi v400 c4_i32_186
  let c256_i32_187 : BitVec 32 := 256#32
  let v402 : BitVec 32 := Scalar.muli v401 c256_i32_187
  let c256_i32_188 : BitVec 32 := 256#32
  let v403 : BitVec 32 := Scalar.subi v402 c256_i32_188
  let v404 : BitVec 32 := Scalar.maxsi c0_i32_189 v403
  let v405 : BitVec 32 := Scalar.minsi c7488_i32_190 v404
  v405
def k0_mult11 (i : grid0.Coords) : BitVec 32 :=
  let c7488_i32_210 : BitVec 32 := 7488#32
  let c0_i32_209 : BitVec 32 := 0#32
  let c16_i32_206 : BitVec 32 := 16#32
  let arg2 : BitVec 32 := BitVec.ofNat 32 (i 2).val
  let v443 : BitVec 32 := Scalar.muli c16_i32_206 arg2
  let c5_i32 : BitVec 32 := 5#32
  let v444 : BitVec 32 := Scalar.addi v443 c5_i32
  let c256_i32_207 : BitVec 32 := 256#32
  let v445 : BitVec 32 := Scalar.muli v444 c256_i32_207
  let c256_i32_208 : BitVec 32 := 256#32
  let v446 : BitVec 32 := Scalar.subi v445 c256_i32_208
  let v447 : BitVec 32 := Scalar.maxsi c0_i32_209 v446
  let v448 : BitVec 32 := Scalar.minsi c7488_i32_210 v447
  v448
def k0_mult12 (i : grid0.Coords) : BitVec 32 :=
  let c7488_i32_231 : BitVec 32 := 7488#32
  let c0_i32_230 : BitVec 32 := 0#32
  let c16_i32_226 : BitVec 32 := 16#32
  let arg2 : BitVec 32 := BitVec.ofNat 32 (i 2).val
  let v488 : BitVec 32 := Scalar.muli c16_i32_226 arg2
  let c5_i32_227 : BitVec 32 := 5#32
  let v489 : BitVec 32 := Scalar.addi v488 c5_i32_227
  let c256_i32_228 : BitVec 32 := 256#32
  let v490 : BitVec 32 := Scalar.muli v489 c256_i32_228
  let c256_i32_229 : BitVec 32 := 256#32
  let v491 : BitVec 32 := Scalar.subi v490 c256_i32_229
  let v492 : BitVec 32 := Scalar.maxsi c0_i32_230 v491
  let v493 : BitVec 32 := Scalar.minsi c7488_i32_231 v492
  v493
def k0_mult13 (i : grid0.Coords) : BitVec 32 :=
  let c7488_i32_251 : BitVec 32 := 7488#32
  let c0_i32_250 : BitVec 32 := 0#32
  let c16_i32_247 : BitVec 32 := 16#32
  let arg2 : BitVec 32 := BitVec.ofNat 32 (i 2).val
  let v531 : BitVec 32 := Scalar.muli c16_i32_247 arg2
  let c6_i32 : BitVec 32 := 6#32
  let v532 : BitVec 32 := Scalar.addi v531 c6_i32
  let c256_i32_248 : BitVec 32 := 256#32
  let v533 : BitVec 32 := Scalar.muli v532 c256_i32_248
  let c256_i32_249 : BitVec 32 := 256#32
  let v534 : BitVec 32 := Scalar.subi v533 c256_i32_249
  let v535 : BitVec 32 := Scalar.maxsi c0_i32_250 v534
  let v536 : BitVec 32 := Scalar.minsi c7488_i32_251 v535
  v536
def k0_mult14 (i : grid0.Coords) : BitVec 32 :=
  let c7488_i32_272 : BitVec 32 := 7488#32
  let c0_i32_271 : BitVec 32 := 0#32
  let c16_i32_267 : BitVec 32 := 16#32
  let arg2 : BitVec 32 := BitVec.ofNat 32 (i 2).val
  let v576 : BitVec 32 := Scalar.muli c16_i32_267 arg2
  let c6_i32_268 : BitVec 32 := 6#32
  let v577 : BitVec 32 := Scalar.addi v576 c6_i32_268
  let c256_i32_269 : BitVec 32 := 256#32
  let v578 : BitVec 32 := Scalar.muli v577 c256_i32_269
  let c256_i32_270 : BitVec 32 := 256#32
  let v579 : BitVec 32 := Scalar.subi v578 c256_i32_270
  let v580 : BitVec 32 := Scalar.maxsi c0_i32_271 v579
  let v581 : BitVec 32 := Scalar.minsi c7488_i32_272 v580
  v581
def k0_mult15 (i : grid0.Coords) : BitVec 32 :=
  let c7488_i32_292 : BitVec 32 := 7488#32
  let c0_i32_291 : BitVec 32 := 0#32
  let c16_i32_288 : BitVec 32 := 16#32
  let arg2 : BitVec 32 := BitVec.ofNat 32 (i 2).val
  let v619 : BitVec 32 := Scalar.muli c16_i32_288 arg2
  let c7_i32 : BitVec 32 := 7#32
  let v620 : BitVec 32 := Scalar.addi v619 c7_i32
  let c256_i32_289 : BitVec 32 := 256#32
  let v621 : BitVec 32 := Scalar.muli v620 c256_i32_289
  let c256_i32_290 : BitVec 32 := 256#32
  let v622 : BitVec 32 := Scalar.subi v621 c256_i32_290
  let v623 : BitVec 32 := Scalar.maxsi c0_i32_291 v622
  let v624 : BitVec 32 := Scalar.minsi c7488_i32_292 v623
  v624
def k0_mult16 (i : grid0.Coords) : BitVec 32 :=
  let c7488_i32_313 : BitVec 32 := 7488#32
  let c0_i32_312 : BitVec 32 := 0#32
  let c16_i32_308 : BitVec 32 := 16#32
  let arg2 : BitVec 32 := BitVec.ofNat 32 (i 2).val
  let v664 : BitVec 32 := Scalar.muli c16_i32_308 arg2
  let c7_i32_309 : BitVec 32 := 7#32
  let v665 : BitVec 32 := Scalar.addi v664 c7_i32_309
  let c256_i32_310 : BitVec 32 := 256#32
  let v666 : BitVec 32 := Scalar.muli v665 c256_i32_310
  let c256_i32_311 : BitVec 32 := 256#32
  let v667 : BitVec 32 := Scalar.subi v666 c256_i32_311
  let v668 : BitVec 32 := Scalar.maxsi c0_i32_312 v667
  let v669 : BitVec 32 := Scalar.minsi c7488_i32_313 v668
  v669
def k0_mult17 (i : grid0.Coords) : BitVec 32 :=
  let c7488_i32_333 : BitVec 32 := 7488#32
  let c0_i32_332 : BitVec 32 := 0#32
  let c16_i32_329 : BitVec 32 := 16#32
  let arg2 : BitVec 32 := BitVec.ofNat 32 (i 2).val
  let v707 : BitVec 32 := Scalar.muli c16_i32_329 arg2
  let c8_i32 : BitVec 32 := 8#32
  let v708 : BitVec 32 := Scalar.addi v707 c8_i32
  let c256_i32_330 : BitVec 32 := 256#32
  let v709 : BitVec 32 := Scalar.muli v708 c256_i32_330
  let c256_i32_331 : BitVec 32 := 256#32
  let v710 : BitVec 32 := Scalar.subi v709 c256_i32_331
  let v711 : BitVec 32 := Scalar.maxsi c0_i32_332 v710
  let v712 : BitVec 32 := Scalar.minsi c7488_i32_333 v711
  v712
def k0_mult18 (i : grid0.Coords) : BitVec 32 :=
  let c7488_i32_354 : BitVec 32 := 7488#32
  let c0_i32_353 : BitVec 32 := 0#32
  let c16_i32_349 : BitVec 32 := 16#32
  let arg2 : BitVec 32 := BitVec.ofNat 32 (i 2).val
  let v752 : BitVec 32 := Scalar.muli c16_i32_349 arg2
  let c8_i32_350 : BitVec 32 := 8#32
  let v753 : BitVec 32 := Scalar.addi v752 c8_i32_350
  let c256_i32_351 : BitVec 32 := 256#32
  let v754 : BitVec 32 := Scalar.muli v753 c256_i32_351
  let c256_i32_352 : BitVec 32 := 256#32
  let v755 : BitVec 32 := Scalar.subi v754 c256_i32_352
  let v756 : BitVec 32 := Scalar.maxsi c0_i32_353 v755
  let v757 : BitVec 32 := Scalar.minsi c7488_i32_354 v756
  v757
def k0_mult19 (i : grid0.Coords) : BitVec 32 :=
  let c7488_i32_374 : BitVec 32 := 7488#32
  let c0_i32_373 : BitVec 32 := 0#32
  let c16_i32_370 : BitVec 32 := 16#32
  let arg2 : BitVec 32 := BitVec.ofNat 32 (i 2).val
  let v795 : BitVec 32 := Scalar.muli c16_i32_370 arg2
  let c9_i32 : BitVec 32 := 9#32
  let v796 : BitVec 32 := Scalar.addi v795 c9_i32
  let c256_i32_371 : BitVec 32 := 256#32
  let v797 : BitVec 32 := Scalar.muli v796 c256_i32_371
  let c256_i32_372 : BitVec 32 := 256#32
  let v798 : BitVec 32 := Scalar.subi v797 c256_i32_372
  let v799 : BitVec 32 := Scalar.maxsi c0_i32_373 v798
  let v800 : BitVec 32 := Scalar.minsi c7488_i32_374 v799
  v800
def k0_mult20 (i : grid0.Coords) : BitVec 32 :=
  let c7488_i32_395 : BitVec 32 := 7488#32
  let c0_i32_394 : BitVec 32 := 0#32
  let c16_i32_390 : BitVec 32 := 16#32
  let arg2 : BitVec 32 := BitVec.ofNat 32 (i 2).val
  let v840 : BitVec 32 := Scalar.muli c16_i32_390 arg2
  let c9_i32_391 : BitVec 32 := 9#32
  let v841 : BitVec 32 := Scalar.addi v840 c9_i32_391
  let c256_i32_392 : BitVec 32 := 256#32
  let v842 : BitVec 32 := Scalar.muli v841 c256_i32_392
  let c256_i32_393 : BitVec 32 := 256#32
  let v843 : BitVec 32 := Scalar.subi v842 c256_i32_393
  let v844 : BitVec 32 := Scalar.maxsi c0_i32_394 v843
  let v845 : BitVec 32 := Scalar.minsi c7488_i32_395 v844
  v845
def k0_mult21 (i : grid0.Coords) : BitVec 32 :=
  let c7488_i32_415 : BitVec 32 := 7488#32
  let c0_i32_414 : BitVec 32 := 0#32
  let c16_i32_411 : BitVec 32 := 16#32
  let arg2 : BitVec 32 := BitVec.ofNat 32 (i 2).val
  let v883 : BitVec 32 := Scalar.muli c16_i32_411 arg2
  let c10_i32 : BitVec 32 := 10#32
  let v884 : BitVec 32 := Scalar.addi v883 c10_i32
  let c256_i32_412 : BitVec 32 := 256#32
  let v885 : BitVec 32 := Scalar.muli v884 c256_i32_412
  let c256_i32_413 : BitVec 32 := 256#32
  let v886 : BitVec 32 := Scalar.subi v885 c256_i32_413
  let v887 : BitVec 32 := Scalar.maxsi c0_i32_414 v886
  let v888 : BitVec 32 := Scalar.minsi c7488_i32_415 v887
  v888
def k0_mult22 (i : grid0.Coords) : BitVec 32 :=
  let c7488_i32_436 : BitVec 32 := 7488#32
  let c0_i32_435 : BitVec 32 := 0#32
  let c16_i32_431 : BitVec 32 := 16#32
  let arg2 : BitVec 32 := BitVec.ofNat 32 (i 2).val
  let v928 : BitVec 32 := Scalar.muli c16_i32_431 arg2
  let c10_i32_432 : BitVec 32 := 10#32
  let v929 : BitVec 32 := Scalar.addi v928 c10_i32_432
  let c256_i32_433 : BitVec 32 := 256#32
  let v930 : BitVec 32 := Scalar.muli v929 c256_i32_433
  let c256_i32_434 : BitVec 32 := 256#32
  let v931 : BitVec 32 := Scalar.subi v930 c256_i32_434
  let v932 : BitVec 32 := Scalar.maxsi c0_i32_435 v931
  let v933 : BitVec 32 := Scalar.minsi c7488_i32_436 v932
  v933
def k0_mult23 (i : grid0.Coords) : BitVec 32 :=
  let c7488_i32_456 : BitVec 32 := 7488#32
  let c0_i32_455 : BitVec 32 := 0#32
  let c16_i32_452 : BitVec 32 := 16#32
  let arg2 : BitVec 32 := BitVec.ofNat 32 (i 2).val
  let v971 : BitVec 32 := Scalar.muli c16_i32_452 arg2
  let c11_i32 : BitVec 32 := 11#32
  let v972 : BitVec 32 := Scalar.addi v971 c11_i32
  let c256_i32_453 : BitVec 32 := 256#32
  let v973 : BitVec 32 := Scalar.muli v972 c256_i32_453
  let c256_i32_454 : BitVec 32 := 256#32
  let v974 : BitVec 32 := Scalar.subi v973 c256_i32_454
  let v975 : BitVec 32 := Scalar.maxsi c0_i32_455 v974
  let v976 : BitVec 32 := Scalar.minsi c7488_i32_456 v975
  v976
def k0_mult24 (i : grid0.Coords) : BitVec 32 :=
  let c7488_i32_477 : BitVec 32 := 7488#32
  let c0_i32_476 : BitVec 32 := 0#32
  let c16_i32_472 : BitVec 32 := 16#32
  let arg2 : BitVec 32 := BitVec.ofNat 32 (i 2).val
  let v1016 : BitVec 32 := Scalar.muli c16_i32_472 arg2
  let c11_i32_473 : BitVec 32 := 11#32
  let v1017 : BitVec 32 := Scalar.addi v1016 c11_i32_473
  let c256_i32_474 : BitVec 32 := 256#32
  let v1018 : BitVec 32 := Scalar.muli v1017 c256_i32_474
  let c256_i32_475 : BitVec 32 := 256#32
  let v1019 : BitVec 32 := Scalar.subi v1018 c256_i32_475
  let v1020 : BitVec 32 := Scalar.maxsi c0_i32_476 v1019
  let v1021 : BitVec 32 := Scalar.minsi c7488_i32_477 v1020
  v1021
def k0_mult25 (i : grid0.Coords) : BitVec 32 :=
  let c7488_i32_497 : BitVec 32 := 7488#32
  let c0_i32_496 : BitVec 32 := 0#32
  let c16_i32_493 : BitVec 32 := 16#32
  let arg2 : BitVec 32 := BitVec.ofNat 32 (i 2).val
  let v1059 : BitVec 32 := Scalar.muli c16_i32_493 arg2
  let c12_i32 : BitVec 32 := 12#32
  let v1060 : BitVec 32 := Scalar.addi v1059 c12_i32
  let c256_i32_494 : BitVec 32 := 256#32
  let v1061 : BitVec 32 := Scalar.muli v1060 c256_i32_494
  let c256_i32_495 : BitVec 32 := 256#32
  let v1062 : BitVec 32 := Scalar.subi v1061 c256_i32_495
  let v1063 : BitVec 32 := Scalar.maxsi c0_i32_496 v1062
  let v1064 : BitVec 32 := Scalar.minsi c7488_i32_497 v1063
  v1064
def k0_mult26 (i : grid0.Coords) : BitVec 32 :=
  let c7488_i32_518 : BitVec 32 := 7488#32
  let c0_i32_517 : BitVec 32 := 0#32
  let c16_i32_513 : BitVec 32 := 16#32
  let arg2 : BitVec 32 := BitVec.ofNat 32 (i 2).val
  let v1104 : BitVec 32 := Scalar.muli c16_i32_513 arg2
  let c12_i32_514 : BitVec 32 := 12#32
  let v1105 : BitVec 32 := Scalar.addi v1104 c12_i32_514
  let c256_i32_515 : BitVec 32 := 256#32
  let v1106 : BitVec 32 := Scalar.muli v1105 c256_i32_515
  let c256_i32_516 : BitVec 32 := 256#32
  let v1107 : BitVec 32 := Scalar.subi v1106 c256_i32_516
  let v1108 : BitVec 32 := Scalar.maxsi c0_i32_517 v1107
  let v1109 : BitVec 32 := Scalar.minsi c7488_i32_518 v1108
  v1109
def k0_mult27 (i : grid0.Coords) : BitVec 32 :=
  let c7488_i32_538 : BitVec 32 := 7488#32
  let c0_i32_537 : BitVec 32 := 0#32
  let c16_i32_534 : BitVec 32 := 16#32
  let arg2 : BitVec 32 := BitVec.ofNat 32 (i 2).val
  let v1147 : BitVec 32 := Scalar.muli c16_i32_534 arg2
  let c13_i32 : BitVec 32 := 13#32
  let v1148 : BitVec 32 := Scalar.addi v1147 c13_i32
  let c256_i32_535 : BitVec 32 := 256#32
  let v1149 : BitVec 32 := Scalar.muli v1148 c256_i32_535
  let c256_i32_536 : BitVec 32 := 256#32
  let v1150 : BitVec 32 := Scalar.subi v1149 c256_i32_536
  let v1151 : BitVec 32 := Scalar.maxsi c0_i32_537 v1150
  let v1152 : BitVec 32 := Scalar.minsi c7488_i32_538 v1151
  v1152
def k0_mult28 (i : grid0.Coords) : BitVec 32 :=
  let c7488_i32_559 : BitVec 32 := 7488#32
  let c0_i32_558 : BitVec 32 := 0#32
  let c16_i32_554 : BitVec 32 := 16#32
  let arg2 : BitVec 32 := BitVec.ofNat 32 (i 2).val
  let v1192 : BitVec 32 := Scalar.muli c16_i32_554 arg2
  let c13_i32_555 : BitVec 32 := 13#32
  let v1193 : BitVec 32 := Scalar.addi v1192 c13_i32_555
  let c256_i32_556 : BitVec 32 := 256#32
  let v1194 : BitVec 32 := Scalar.muli v1193 c256_i32_556
  let c256_i32_557 : BitVec 32 := 256#32
  let v1195 : BitVec 32 := Scalar.subi v1194 c256_i32_557
  let v1196 : BitVec 32 := Scalar.maxsi c0_i32_558 v1195
  let v1197 : BitVec 32 := Scalar.minsi c7488_i32_559 v1196
  v1197
def k0_mult29 (i : grid0.Coords) : BitVec 32 :=
  let c7488_i32_579 : BitVec 32 := 7488#32
  let c0_i32_578 : BitVec 32 := 0#32
  let c16_i32_575 : BitVec 32 := 16#32
  let arg2 : BitVec 32 := BitVec.ofNat 32 (i 2).val
  let v1235 : BitVec 32 := Scalar.muli c16_i32_575 arg2
  let c14_i32 : BitVec 32 := 14#32
  let v1236 : BitVec 32 := Scalar.addi v1235 c14_i32
  let c256_i32_576 : BitVec 32 := 256#32
  let v1237 : BitVec 32 := Scalar.muli v1236 c256_i32_576
  let c256_i32_577 : BitVec 32 := 256#32
  let v1238 : BitVec 32 := Scalar.subi v1237 c256_i32_577
  let v1239 : BitVec 32 := Scalar.maxsi c0_i32_578 v1238
  let v1240 : BitVec 32 := Scalar.minsi c7488_i32_579 v1239
  v1240
def k0_mult30 (i : grid0.Coords) : BitVec 32 :=
  let c7488_i32_600 : BitVec 32 := 7488#32
  let c0_i32_599 : BitVec 32 := 0#32
  let c16_i32_595 : BitVec 32 := 16#32
  let arg2 : BitVec 32 := BitVec.ofNat 32 (i 2).val
  let v1280 : BitVec 32 := Scalar.muli c16_i32_595 arg2
  let c14_i32_596 : BitVec 32 := 14#32
  let v1281 : BitVec 32 := Scalar.addi v1280 c14_i32_596
  let c256_i32_597 : BitVec 32 := 256#32
  let v1282 : BitVec 32 := Scalar.muli v1281 c256_i32_597
  let c256_i32_598 : BitVec 32 := 256#32
  let v1283 : BitVec 32 := Scalar.subi v1282 c256_i32_598
  let v1284 : BitVec 32 := Scalar.maxsi c0_i32_599 v1283
  let v1285 : BitVec 32 := Scalar.minsi c7488_i32_600 v1284
  v1285
def k0_mult31 (i : grid0.Coords) : BitVec 32 :=
  let c7488_i32_620 : BitVec 32 := 7488#32
  let c0_i32_619 : BitVec 32 := 0#32
  let c16_i32_616 : BitVec 32 := 16#32
  let arg2 : BitVec 32 := BitVec.ofNat 32 (i 2).val
  let v1323 : BitVec 32 := Scalar.muli c16_i32_616 arg2
  let c15_i32 : BitVec 32 := 15#32
  let v1324 : BitVec 32 := Scalar.addi v1323 c15_i32
  let c256_i32_617 : BitVec 32 := 256#32
  let v1325 : BitVec 32 := Scalar.muli v1324 c256_i32_617
  let c256_i32_618 : BitVec 32 := 256#32
  let v1326 : BitVec 32 := Scalar.subi v1325 c256_i32_618
  let v1327 : BitVec 32 := Scalar.maxsi c0_i32_619 v1326
  let v1328 : BitVec 32 := Scalar.minsi c7488_i32_620 v1327
  v1328
def k0_mult32 (i : grid0.Coords) : BitVec 32 :=
  let c7488_i32_641 : BitVec 32 := 7488#32
  let c0_i32_640 : BitVec 32 := 0#32
  let c16_i32_636 : BitVec 32 := 16#32
  let arg2 : BitVec 32 := BitVec.ofNat 32 (i 2).val
  let v1368 : BitVec 32 := Scalar.muli c16_i32_636 arg2
  let c15_i32_637 : BitVec 32 := 15#32
  let v1369 : BitVec 32 := Scalar.addi v1368 c15_i32_637
  let c256_i32_638 : BitVec 32 := 256#32
  let v1370 : BitVec 32 := Scalar.muli v1369 c256_i32_638
  let c256_i32_639 : BitVec 32 := 256#32
  let v1371 : BitVec 32 := Scalar.subi v1370 c256_i32_639
  let v1372 : BitVec 32 := Scalar.maxsi c0_i32_640 v1371
  let v1373 : BitVec 32 := Scalar.minsi c7488_i32_641 v1372
  v1373
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, arg1.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg2 c1_i32
  let c2_i32 : BitVec 32 := 2#32
  let c1_i32_0 : BitVec 32 := 1#32
  let v1 : BitVec 32 := Scalar.select v0 c2_i32 c1_i32_0
  let c0_i32 : BitVec 32 := 0#32
  let c0_i32_1 : BitVec 32 := 0#32
  let c0_i32_2 : BitVec 32 := 0#32
  ![v1.toNat, arg1.toNat, c0_i32.toNat, c0_i32_1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x2x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x2x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x8192x16x64 : Shape := ⟨4, ![4, 8192, 16, 64]⟩
abbrev S4x256x16x64 : Shape := ⟨4, ![4, 256, 16, 64]⟩
abbrev S16x15x31 : Shape := ⟨3, ![16, 15, 31]⟩
abbrev S64 : Shape := ⟨1, ![64]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8192x8192x1 : Shape := ⟨3, ![8192, 8192, 1]⟩
abbrev S8192x8192x2 : Shape := ⟨3, ![8192, 8192, 2]⟩
abbrev S16x8192x8192 : Shape := ⟨3, ![16, 8192, 8192]⟩
abbrev S4x16x8192x8192 : Shape := ⟨4, ![4, 16, 8192, 8192]⟩
abbrev S1x16x8192x8192 : Shape := ⟨4, ![1, 16, 8192, 8192]⟩
abbrev S4x16x8192x256 : Shape := ⟨4, ![4, 16, 8192, 256]⟩
abbrev S4x16x8192x8448 : Shape := ⟨4, ![4, 16, 8192, 8448]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩
abbrev S32768x1024 : Shape := ⟨2, ![32768, 1024]⟩

abbrev nBuf : Space → Nat
  | .hbm => 157
  | .vmem => 0
  | .smem => 0
  | _ => 0

abbrev hbmTy0_0 (i : Nat) : BufTy := match i % 128 with
  | 0 => ⟨S4x8192x16x64, .f32⟩
  | 1 => ⟨S4x8192x16x64, .f32⟩
  | 2 => ⟨S4x8192x16x64, .f32⟩
  | 3 => ⟨S4x256x16x64, .f32⟩
  | 4 => ⟨S4x256x16x64, .f32⟩
  | 5 => ⟨S16x15x31, .f32⟩
  | 6 => ⟨S64, .f32⟩
  | 7 => ⟨S64, .f32⟩
  | 8 => ⟨S8192, .i32⟩
  | 9 => ⟨S_, .i32⟩
  | 10 => ⟨S8192, .i32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S_, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S_, .i32⟩
  | 30 => ⟨S_, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S1x8192, .i32⟩
  | 38 => ⟨S8192x1, .i32⟩
  | 39 => ⟨S8192x8192, .i32⟩
  | 40 => ⟨S8192x8192, .i32⟩
  | 41 => ⟨S8192x8192, .i1⟩
  | 42 => ⟨S1x8192, .i32⟩
  | 43 => ⟨S8192x1, .i32⟩
  | 44 => ⟨S_, .i32⟩
  | 45 => ⟨S8192x1, .i32⟩
  | 46 => ⟨S8192x1, .i32⟩
  | 47 => ⟨S8192x8192, .i32⟩
  | 48 => ⟨S8192x8192, .i32⟩
  | 49 => ⟨S8192x8192, .i1⟩
  | 50 => ⟨S8192x8192, .i1⟩
  | 51 => ⟨S1x8192, .i32⟩
  | 52 => ⟨S8192x1, .i32⟩
  | 53 => ⟨S8192x8192, .i32⟩
  | 54 => ⟨S8192x8192, .i32⟩
  | 55 => ⟨S8192x8192, .i1⟩
  | 56 => ⟨S1x8192, .i32⟩
  | 57 => ⟨S8192x1, .i32⟩
  | 58 => ⟨S_, .i32⟩
  | 59 => ⟨S8192x1, .i32⟩
  | 60 => ⟨S8192x1, .i32⟩
  | 61 => ⟨S8192x8192, .i32⟩
  | 62 => ⟨S8192x8192, .i32⟩
  | 63 => ⟨S8192x8192, .i1⟩
  | 64 => ⟨S8192x8192, .i1⟩
  | 65 => ⟨S1x8192, .i32⟩
  | 66 => ⟨S8192x1, .i32⟩
  | 67 => ⟨S8192x8192, .i32⟩
  | 68 => ⟨S8192x8192, .i32⟩
  | 69 => ⟨S8192x8192, .i32⟩
  | 70 => ⟨S_, .i32⟩
  | 71 => ⟨S8192x8192, .i32⟩
  | 72 => ⟨S8192x8192, .i32⟩
  | 73 => ⟨S_, .i32⟩
  | 74 => ⟨S8192x8192, .i32⟩
  | 75 => ⟨S8192x8192, .i32⟩
  | 76 => ⟨S_, .i32⟩
  | 77 => ⟨S_, .i32⟩
  | 78 => ⟨S_, .i32⟩
  | 79 => ⟨S8192x8192, .i32⟩
  | 80 => ⟨S8192x8192, .i32⟩
  | 81 => ⟨S_, .i32⟩
  | 82 => ⟨S8192x8192, .i32⟩
  | 83 => ⟨S8192x8192, .i32⟩
  | 84 => ⟨S1x8192, .i32⟩
  | 85 => ⟨S8192x1, .i32⟩
  | 86 => ⟨S8192x8192, .i32⟩
  | 87 => ⟨S8192x8192, .i32⟩
  | 88 => ⟨S8192x8192, .i32⟩
  | 89 => ⟨S_, .i32⟩
  | 90 => ⟨S8192x8192, .i32⟩
  | 91 => ⟨S8192x8192, .i32⟩
  | 92 => ⟨S_, .i32⟩
  | 93 => ⟨S8192x8192, .i32⟩
  | 94 => ⟨S8192x8192, .i32⟩
  | 95 => ⟨S_, .i32⟩
  | 96 => ⟨S_, .i32⟩
  | 97 => ⟨S_, .i32⟩
  | 98 => ⟨S8192x8192, .i32⟩
  | 99 => ⟨S8192x8192, .i32⟩
  | 100 => ⟨S_, .i32⟩
  | 101 => ⟨S8192x8192, .i32⟩
  | 102 => ⟨S8192x8192, .i32⟩
  | 103 => ⟨S8192x8192, .i1⟩
  | 104 => ⟨S1x8192x8192, .i1⟩
  | 105 => ⟨S_, .i32⟩
  | 106 => ⟨S8192x8192, .i32⟩
  | 107 => ⟨S8192x8192, .i1⟩
  | 108 => ⟨S_, .i32⟩
  | 109 => ⟨S8192x8192, .i32⟩
  | 110 => ⟨S8192x8192, .i32⟩
  | 111 => ⟨S8192x8192, .i32⟩
  | 112 => ⟨S_, .i32⟩
  | 113 => ⟨S8192x8192, .i32⟩
  | 114 => ⟨S8192x8192, .i1⟩
  | 115 => ⟨S_, .i32⟩
  | 116 => ⟨S8192x8192, .i32⟩
  | 117 => ⟨S8192x8192, .i32⟩
  | 118 => ⟨S8192x8192, .i32⟩
  | 119 => ⟨S8192x8192x1, .i32⟩
  | 120 => ⟨S8192x8192x1, .i32⟩
  | 121 => ⟨S8192x8192x2, .i32⟩
  | 122 => ⟨S16x8192x8192, .f32⟩
  | 123 => ⟨S_, .f32⟩
  | 124 => ⟨S_, .f32⟩
  | 125 => ⟨S16x8192x8192, .i1⟩
  | 126 => ⟨S16x8192x8192, .f32⟩
  | 127 => ⟨S16x8192x8192, .f32⟩
  | _ => ⟨S4x8192x16x64, .f32⟩

abbrev hbmTy0_1 (i : Nat) : BufTy := match i % 128 with
  | 0 => ⟨S4x16x8192x8192, .f32⟩
  | 1 => ⟨S1x16x8192x8192, .f32⟩
  | 2 => ⟨S4x16x8192x8192, .f32⟩
  | 3 => ⟨S4x16x8192x8192, .f32⟩
  | 4 => ⟨S4x16x8192x256, .f32⟩
  | 5 => ⟨S4x16x8192x8448, .f32⟩
  | 6 => ⟨S_, .f32⟩
  | 7 => ⟨S4x16x8192, .f32⟩
  | 8 => ⟨S_, .f32⟩
  | 9 => ⟨S4x16x8192, .f32⟩
  | 10 => ⟨S4x16x8192, .f32⟩
  | 11 => ⟨S4x16x8192x1, .f32⟩
  | 12 => ⟨S4x16x8192x8448, .f32⟩
  | 13 => ⟨S4x16x8192x8448, .f32⟩
  | 14 => ⟨S4x16x8192x8448, .f32⟩
  | 15 => ⟨S_, .f32⟩
  | 16 => ⟨S4x16x8192, .f32⟩
  | 17 => ⟨S4x16x8192x1, .f32⟩
  | 18 => ⟨S4x16x8192x8448, .f32⟩
  | 19 => ⟨S4x16x8192x8448, .f32⟩
  | 20 => ⟨S4x16x8192x8192, .f32⟩
  | 21 => ⟨S4x16x64x8192, .f32⟩
  | 22 => ⟨S4x8192x16x64, .f32⟩
  | 23 => ⟨S4x16x8192x256, .f32⟩
  | 24 => ⟨S4x16x64x8192, .f32⟩
  | 25 => ⟨S4x8192x16x64, .f32⟩
  | 26 => ⟨S4x8192x16x64, .f32⟩
  | 27 => ⟨S32768x1024, .f32⟩
  | 28 => ⟨S32768x1024, .bf16⟩
  | _ => ⟨S4x8192x16x64, .f32⟩

abbrev hbmTy (i : Nat) : BufTy := match i / 128 with
  | 0 => hbmTy0_0 i
  | 1 => hbmTy0_1 i
  | _ => ⟨S4x8192x16x64, .f32⟩

abbrev bufTy : (tb : Table) → Fin (tcTables nBuf tb) → BufTy
  | .hbm, ⟨i, _⟩ => hbmTy i
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v7 : Ref sig .tc := ⟨.hbm, 25, rfl⟩
abbrev main_c_4 : Ref sig .tc := ⟨.hbm, 26, rfl⟩
abbrev main_v8 : Ref sig .tc := ⟨.hbm, 27, rfl⟩
abbrev main_v9 : Ref sig .tc := ⟨.hbm, 28, rfl⟩
abbrev main_c_5 : Ref sig .tc := ⟨.hbm, 29, rfl⟩
abbrev main_c_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_7 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_c_12 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_13 : Ref sig .tc := ⟨.hbm, 89, rfl⟩
abbrev main_v52 : Ref sig .tc := ⟨.hbm, 90, rfl⟩
abbrev main_v53 : Ref sig .tc := ⟨.hbm, 91, rfl⟩
abbrev main_c_14 : Ref sig .tc := ⟨.hbm, 92, rfl⟩
abbrev main_v54 : Ref sig .tc := ⟨.hbm, 93, rfl⟩
abbrev main_v55 : Ref sig .tc := ⟨.hbm, 94, rfl⟩
abbrev main_c_15 : Ref sig .tc := ⟨.hbm, 95, rfl⟩
abbrev main_c_16 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_17 : Ref sig .tc := ⟨.hbm, 105, rfl⟩
abbrev main_v59 : Ref sig .tc := ⟨.hbm, 106, rfl⟩
abbrev main_v60 : Ref sig .tc := ⟨.hbm, 107, rfl⟩
abbrev main_c_18 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_19 : Ref sig .tc := ⟨.hbm, 112, rfl⟩
abbrev main_v64 : Ref sig .tc := ⟨.hbm, 113, rfl⟩
abbrev main_v65 : Ref sig .tc := ⟨.hbm, 114, rfl⟩
abbrev main_c_20 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_21 : Ref sig .tc := ⟨.hbm, 134, rfl⟩
abbrev main_v80 : Ref sig .tc := ⟨.hbm, 135, rfl⟩
abbrev main_cst_22 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_23 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩

abbrev nD : Nat := 1
abbrev τ : Topo := Topo.v7x

variable {F : FTy → Type} [FloatOps F]
-- ==== Channel.lean ====
abbrev S4x8x8192x128 : Shape := ⟨4, ![4, 8, 8192, 128]⟩
abbrev S4x8192x1024 : Shape := ⟨3, ![4, 8192, 1024]⟩
abbrev S4x8192x2048 : Shape := ⟨3, ![4, 8192, 2048]⟩
abbrev S4x6144 : Shape := ⟨2, ![4, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4x8192x8x128 : Shape := ⟨4, ![4, 8192, 8, 128]⟩
abbrev S32768x1024 : Shape := ⟨2, ![32768, 1024]⟩
abbrev S_ : Shape := ⟨0, ![]⟩
abbrev S32768x2048 : Shape := ⟨2, ![32768, 2048]⟩
abbrev S32768x3072 : Shape := ⟨2, ![32768, 3072]⟩
abbrev S32768x8192 : Shape := ⟨2, ![32768, 8192]⟩
abbrev S4x6x1024 : Shape := ⟨3, ![4, 6, 1024]⟩
abbrev S8x6x1024 : Shape := ⟨3, ![8, 6, 1024]⟩
abbrev S1x1024 : Shape := ⟨2, ![1, 1024]⟩
abbrev S512x1024 : Shape := ⟨2, ![512, 1024]⟩
abbrev S512x2048 : Shape := ⟨2, ![512, 2048]⟩
abbrev S1x512x1024 : Shape := ⟨3, ![1, 512, 1024]⟩
abbrev S1x6x1024 : Shape := ⟨3, ![1, 6, 1024]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S512x2816 : Shape := ⟨2, ![512, 2816]⟩

abbrev nBuf : Space → Nat
  | .hbm => 39
  | .vmem => 22
  | .smem => 0
  | _ => 0

abbrev bufTy : (tb : Table) → Fin (tcTables nBuf tb) → BufTy
  | .hbm, ⟨0, _⟩ => ⟨S4x8x8192x128, .f32⟩
  | .hbm, ⟨1, _⟩ => ⟨S4x8192x1024, .f32⟩
  | .hbm, ⟨2, _⟩ => ⟨S4x8192x1024, .f32⟩
  | .hbm, ⟨3, _⟩ => ⟨S4x8192x2048, .f32⟩
  | .hbm, ⟨4, _⟩ => ⟨S4x8192x1024, .f32⟩
  | .hbm, ⟨5, _⟩ => ⟨S4x6144, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S4x8192x8x128, .f32⟩
  | .hbm, ⟨15, _⟩ => ⟨S32768x1024, .f32⟩
  | .hbm, ⟨16, _⟩ => ⟨S_, .f32⟩
  | .hbm, ⟨17, _⟩ => ⟨S32768x2048, .f32⟩
  | .hbm, ⟨18, _⟩ => ⟨S32768x1024, .f32⟩
  | .hbm, ⟨19, _⟩ => ⟨S_, .f32⟩
  | .hbm, ⟨20, _⟩ => ⟨S32768x3072, .f32⟩
  | .hbm, ⟨21, _⟩ => ⟨S32768x2048, .f32⟩
  | .hbm, ⟨22, _⟩ => ⟨S32768x8192, .f32⟩
  | .hbm, ⟨23, _⟩ => ⟨S32768x8192, .bf16⟩
  | .hbm, ⟨24, _⟩ => ⟨S4x6x1024, .f32⟩
  | .hbm, ⟨25, _⟩ => ⟨S_, .i32⟩
  | .hbm, ⟨26, _⟩ => ⟨S_, .f32⟩
  | .hbm, ⟨27, _⟩ => ⟨S8x6x1024, .f32⟩
  | .hbm, ⟨28, _⟩ => ⟨S32768x1024, .f32⟩
  | .hbm, ⟨29, _⟩ => ⟨S32768x1024, .bf16⟩
  | .hbm, ⟨30, _⟩ => ⟨S1x1024, .f32⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x2816, .bf16⟩
  | .hbm, ⟨35, _⟩ => ⟨S1024x2816, .bf16⟩
  | .hbm, ⟨36, _⟩ => ⟨S2816x1024, .bf16⟩
  | .hbm, ⟨37, _⟩ => ⟨S1x1024, .f32⟩
  | .hbm, ⟨38, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1x512x1024, .f32⟩
  | .local _ .vmem, ⟨9, _⟩ => ⟨S1x512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x512x1024, .f32⟩
  | .local _ .vmem, ⟨21, _⟩ => ⟨S1x512x1024, .f32⟩
  | _, _ => ⟨S4x8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ChannelReferenceIdeal.lean ====
abbrev S4x8x8192x128 : Shape := ⟨4, ![4, 8, 8192, 128]⟩
abbrev S4x8192x1024 : Shape := ⟨3, ![4, 8192, 1024]⟩
abbrev S4x8192x2048 : Shape := ⟨3, ![4, 8192, 2048]⟩
abbrev S4x6144 : Shape := ⟨2, ![4, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S4x1024 : Shape := ⟨2, ![4, 1024]⟩
abbrev S4x8192x8x128 : Shape := ⟨4, ![4, 8192, 8, 128]⟩
abbrev S_ : Shape := ⟨0, ![]⟩
abbrev S4x8192x8 : Shape := ⟨3, ![4, 8192, 8]⟩
abbrev S4x8192x8x1 : Shape := ⟨4, ![4, 8192, 8, 1]⟩
abbrev S8x128 : Shape := ⟨2, ![8, 128]⟩
abbrev S1x1x8x128 : Shape := ⟨4, ![1, 1, 8, 128]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 110
  | .vmem => 0
  | .smem => 0
  | _ => 0

abbrev bufTy : (tb : Table) → Fin (tcTables nBuf tb) → BufTy
  | .hbm, ⟨0, _⟩ => ⟨S4x8x8192x128, .f32⟩
  | .hbm, ⟨1, _⟩ => ⟨S4x8192x1024, .f32⟩
  | .hbm, ⟨2, _⟩ => ⟨S4x8192x1024, .f32⟩
  | .hbm, ⟨3, _⟩ => ⟨S4x8192x2048, .f32⟩
  | .hbm, ⟨4, _⟩ => ⟨S4x8192x1024, .f32⟩
  | .hbm, ⟨5, _⟩ => ⟨S4x6144, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x8192x8x128, .f32⟩
  | .hbm, ⟨21, _⟩ => ⟨S4x8192x8x128, .f32⟩
  | .hbm, ⟨22, _⟩ => ⟨S_, .f32⟩
  | .hbm, ⟨23, _⟩ => ⟨S4x8192x8, .f32⟩
  | .hbm, ⟨24, _⟩ => ⟨S4x8192x8x1, .f32⟩
  | .hbm, ⟨25, _⟩ => ⟨S_, .f32⟩
  | .hbm, ⟨26, _⟩ => ⟨S4x8192x8x1, .f32⟩
  | .hbm, ⟨27, _⟩ => ⟨S4x8192x8x1, .f32⟩
  | .hbm, ⟨28, _⟩ => ⟨S_, .f32⟩
  | .hbm, ⟨29, _⟩ => ⟨S4x8192x8x1, .f32⟩
  | .hbm, ⟨30, _⟩ => ⟨S4x8192x8x1, .f32⟩
  | .hbm, ⟨31, _⟩ => ⟨S4x8192x8x1, .f32⟩
  | .hbm, ⟨32, _⟩ => ⟨S4x8192x8x128, .f32⟩
  | .hbm, ⟨33, _⟩ => ⟨S4x8192x8x128, .f32⟩
  | .hbm, ⟨34, _⟩ => ⟨S8x128, .f32⟩
  | .hbm, ⟨35, _⟩ => ⟨S1x1x8x128, .f32⟩
  | .hbm, ⟨36, _⟩ => ⟨S4x8192x8x128, .f32⟩
  | .hbm, ⟨37, _⟩ => ⟨S4x8192x8x128, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192x2048, .f32⟩
  | .hbm, ⟨52, _⟩ => ⟨S4x8192x2048, .f32⟩
  | .hbm, ⟨53, _⟩ => ⟨S_, .f32⟩
  | .hbm, ⟨54, _⟩ => ⟨S4x8192x2048, .f32⟩
  | .hbm, ⟨55, _⟩ => ⟨S4x8192x2048, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | .hbm, ⟨84, _⟩ => ⟨S4x1x1024, .f32⟩
  | .hbm, ⟨85, _⟩ => ⟨S_, .f32⟩
  | .hbm, ⟨86, _⟩ => ⟨S4x1x1024, .f32⟩
  | .hbm, ⟨87, _⟩ => ⟨S4x1x1024, .f32⟩
  | .hbm, ⟨88, _⟩ => ⟨S4x8192x1024, .f32⟩
  | .hbm, ⟨89, _⟩ => ⟨S4x8192x1024, .f32⟩
  | .hbm, ⟨90, _⟩ => ⟨S4x1x1024, .f32⟩
  | .hbm, ⟨91, _⟩ => ⟨S4x8192x1024, .f32⟩
  | .hbm, ⟨92, _⟩ => ⟨S4x8192x1024, .f32⟩
  | .hbm, ⟨93, _⟩ => ⟨S4x1x1024, .f32⟩
  | .hbm, ⟨94, _⟩ => ⟨S4x8192x2816, .f32⟩
  | .hbm, ⟨95, _⟩ => ⟨S4x8192x2816, .f32⟩
  | .hbm, ⟨96, _⟩ => ⟨S4x8192x2816, .f32⟩
  | .hbm, ⟨97, _⟩ => ⟨S_, .f32⟩
  | .hbm, ⟨98, _⟩ => ⟨S4x8192x2816, .f32⟩
  | .hbm, ⟨99, _⟩ => ⟨S4x8192x2816, .f32⟩
  | .hbm, ⟨100, _⟩ => ⟨S_, .f32⟩
  | .hbm, ⟨101, _⟩ => ⟨S4x8192x2816, .f32⟩
  | .hbm, ⟨102, _⟩ => ⟨S4x8192x2816, .f32⟩
  | .hbm, ⟨103, _⟩ => ⟨S4x8192x2816, .f32⟩
  | .hbm, ⟨104, _⟩ => ⟨S4x8192x2816, .f32⟩
  | .hbm, ⟨105, _⟩ => ⟨S4x8192x2816, .f32⟩
  | .hbm, ⟨106, _⟩ => ⟨S4x8192x1024, .f32⟩
  | .hbm, ⟨107, _⟩ => ⟨S4x8192x1024, .f32⟩
  | .hbm, ⟨108, _⟩ => ⟨S4x8192x1024, .f32⟩
  | .hbm, ⟨109, _⟩ => ⟨S4x8192x1024, .f32⟩
  | _, _ => ⟨S4x8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Proof.Block.lean ====
/- What one grid point of the neighbourhood attention leaves in its output block: sixteen tiles of 256 rows, each the same
   function (`tile`) of the point's operands at that tile's rows. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Block

open Cert.KernelIdeal Cert.KernelIdeal.Gen Idealize.ShloMosaic Idealize.ShloMosaic.TcCoe Idealize.SL.Sem

variable {F : FTy → Type} [FloatOps F]

/-- One tile: the attention of 256 query rows of two heads over a window of 704 keys and 256 context keys. -/
def tile (sh : Vec F S1x1 .f32) (q : Vec F S256x128 .bf16) (kw vw : Vec F S704x128 .bf16) (kc vc : Vec F S256x128 .bf16)
    (b0 b1 : Vec F S1x1x256x704 .f32) : FVec F S256x128 .bf16 :=
  k0_pay19 (k0_pay2 sh) (k0_pay5 vc) k0_pay6 (k0_pay11 k0_pay6 k0_pay7 q kw b1) (k0_pay12 (k0_pay3 kc) k0_pay6 k0_pay7 q)
    (k0_pay15 (k0_pay2 sh) (k0_pay4 vc) (k0_pay9 (k0_pay3 kc) k0_pay6 k0_pay7 q) (k0_pay13 vw)
      (k0_pay14 k0_pay6 k0_pay7 q kw b0)) vw

theorem tile_inb (j : Fin 16) : ∀ a, (![256 * j.val, 0] : Fin 2 → ℕ) a + (![256, 128] : Fin 2 → ℕ) a ≤ S4096x128.size a := by
  intro a
  have := j.isLt
  fin_cases a
  · show 256 * j.val + 256 ≤ 4096; omega
  · exact le_refl 128

/-- The rows of tile `j` in a block of 4096. -/
abbrev tileRect (j : Fin 16) : Rect S4096x128 := Rect.unit ![256 * j.val, 0] ![256, 128] (tile_inb j)

/-- The window of 704 key rows that tile `j` reads. -/
abbrev winRect (i : grid0.Coords) (j : Fin 16) : Rect S8192x128 :=
  Rect.unit (k0_off1 i (BitVec.ofNat 32 j.val)) ![704, 128] (k0_off1_inb i j)

/-- The bias pattern that tile `j` adds. -/
def patOf {α : Type} (j : Fin 16) (first mid last : α) : α := if j.val = 0 then first else if j.val = 15 then last else mid

/-- Tile `j` of a point, from the point's blocks. -/
def tileAt (i : grid0.Coords) (x0 : Vec F S1x128 .f32) (x1 : Vec F S4096x128 .bf16) (x2 : Vec F S8192x128 .bf16) (x3 : Vec F S8192x128 .bf16) (x4 : Vec F S256x128 .bf16) (x5 : Vec F S256x128 .bf16) (x6 : Vec F S1x2x256x704 .f32) (x7 : Vec F S1x2x256x704 .f32) (x8 : Vec F S1x2x256x704 .f32) (j : Fin 16) : FVec F S256x128 .bf16 :=
  tile (View.ld x0 (Rect.unit ![0, 0] ![1, 1] inb_S1x128_S1x1_0_0)) (View.ld x1 (tileRect j)) (View.ld x2 (winRect i j))
    (View.ld x3 (winRect i j)) x4 x5
    (View.ld (patOf j x6 x7 x8) (Rect.unit ![0, 0, 0, 0] ![1, 1, 256, 704] inb_S1x2x256x704_S1x1x256x704_0_0_0_0))
    (View.ld (patOf j x6 x7 x8) (Rect.unit ![0, 1, 0, 0] ![1, 1, 256, 704] inb_S1x2x256x704_S1x1x256x704_0_1_0_0))

/-- The whole block: at row `256 j + r`, row `r` of tile `j`. -/
def whole (i : grid0.Coords) (x0 : Vec F S1x128 .f32) (x1 : Vec F S4096x128 .bf16) (x2 : Vec F S8192x128 .bf16) (x3 : Vec F S8192x128 .bf16) (x4 : Vec F S256x128 .bf16) (x5 : Vec F S256x128 .bf16) (x6 : Vec F S1x2x256x704 .f32) (x7 : Vec F S1x2x256x704 .f32) (x8 : Vec F S1x2x256x704 .f32) : Vec F S4096x128 .bf16 := fun y =>
  tileAt i x0 x1 x2 x3 x4 x5 x6 x7 x8 ⟨(y 0).val / 256, by have : (y 0).val < 4096 := (y 0).isLt; omega⟩ (ix2 ⟨(y 0).val % 256, Nat.mod_lt _ (by decide)⟩ (y 1))

theorem whole_emb (i : grid0.Coords) (x0 : Vec F S1x128 .f32) (x1 : Vec F S4096x128 .bf16) (x2 : Vec F S8192x128 .bf16) (x3 : Vec F S8192x128 .bf16) (x4 : Vec F S256x128 .bf16) (x5 : Vec F S256x128 .bf16) (x6 : Vec F S1x2x256x704 .f32) (x7 : Vec F S1x2x256x704 .f32) (x8 : Vec F S1x2x256x704 .f32) (j : Fin 16) (x : (tileRect j).shape.Idx) :
    tileAt i x0 x1 x2 x3 x4 x5 x6 x7 x8 j x = whole i x0 x1 x2 x3 x4 x5 x6 x7 x8 ((tileRect j).emb x) := by
  obtain ⟨j, hj⟩ := j
  have h0 : (x 0).val < 256 := (x 0).isLt
  have e0 : (((tileRect ⟨j, hj⟩).emb x) 0).val = 256 * j + (x 0).val := by
    show 256 * j + 1 * (x 0).val = _; omega
  have e1 : (((tileRect ⟨j, hj⟩).emb x) 1).val = (x 1).val := by
    show 0 + 1 * (x 1).val = _; omega
  unfold whole
  congr 1
  · congr 1
    show j = (((tileRect ⟨j, hj⟩).emb x) 0).val / 256
    rw [e0]; omega
  · funext a
    fin_cases a
    · apply Fin.ext
      show (x 0).val = (((tileRect ⟨j, hj⟩).emb x) 0).val % 256
      rw [e0]; omega
    · exact Fin.ext e1.symm

set_option maxHeartbeats 4000000 in
/-- The contents a point leaves are the whole block. -/
theorem out_eq_whole (c : Dev nD) (i : grid0.Coords) (a3 : Memref sig .tc .vmem S1x128 .f32) (h3 : a3.IsWhole) (a4 : Memref sig .tc .vmem S4096x128 .bf16) (h4 : a4.IsWhole) (a5 : Memref sig .tc .vmem S8192x128 .bf16) (h5 : a5.IsWhole) (a6 : Memref sig .tc .vmem S8192x128 .bf16) (h6 : a6.IsWhole) (a7 : Memref sig .tc .vmem S256x128 .bf16) (h7 : a7.IsWhole) (a8 : Memref sig .tc .vmem S256x128 .bf16) (h8 : a8.IsWhole) (a9 : Memref sig .tc .vmem S1x2x256x704 .f32) (h9 : a9.IsWhole) (a10 : Memref sig .tc .vmem S1x2x256x704 .f32) (h10 : a10.IsWhole) (a11 : Memref sig .tc .vmem S1x2x256x704 .f32) (h11 : a11.IsWhole) (a12 : Memref sig .tc .vmem S4096x128 .bf16) (h12 : a12.IsWhole)
    (x0 : Vec F S1x128 .f32) (x1 : Vec F S4096x128 .bf16) (x2 : Vec F S8192x128 .bf16) (x3 : Vec F S8192x128 .bf16) (x4 : Vec F S256x128 .bf16) (x5 : Vec F S256x128 .bf16) (x6 : Vec F S1x2x256x704 .f32) (x7 : Vec F S1x2x256x704 .f32) (x8 : Vec F S1x2x256x704 .f32) :
    out0_A_9 c i a3 h3 a4 h4 a5 h5 a6 h6 a7 h7 a8 h8 a9 h9 a10 h10 a11 h11 a12 h12 x0 x1 x2 x3 x4 x5 x6 x7 x8 = whole i x0 x1 x2 x3 x4 x5 x6 x7 x8 := by
  funext y
  rw [out0_A_9, View.read_writes_eq_canon _ _ _ (cover0_A_9 c i a3 h3 a4 h4 a5 h5 a6 h6 a7 h7 a8 h8 a9 h9 a10 h10 a11 h11 a12 h12 x0 x1 x2 x3 x4 x5 x6 x7 x8)]
  refine View.canon_apply_of_pieces (whole i x0 x1 x2 x3 x4 x5 x6 x7 x8) _ (View.PiecesOf.mem ?_) y (cover0_A_9 c i a3 h3 a4 h4 a5 h5 a6 h6 a7 h7 a8 h8 a9 h9 a10 h10 a11 h11 a12 h12 x0 x1 x2 x3 x4 x5 x6 x7 x8 y)
  frame_open
  simp (disch := decide) only [View.ld_unit_lit', View.readAt_eq_ld, Memref.IsWhole.read_unread]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, trivial⟩
  · exact whole_emb i x0 x1 x2 x3 x4 x5 x6 x7 x8 15 x
  · exact whole_emb i x0 x1 x2 x3 x4 x5 x6 x7 x8 14 x
  · exact whole_emb i x0 x1 x2 x3 x4 x5 x6 x7 x8 13 x
  · exact whole_emb i x0 x1 x2 x3 x4 x5 x6 x7 x8 12 x
  · exact whole_emb i x0 x1 x2 x3 x4 x5 x6 x7 x8 11 x
  · exact whole_emb i x0 x1 x2 x3 x4 x5 x6 x7 x8 10 x
  · exact whole_emb i x0 x1 x2 x3 x4 x5 x6 x7 x8 9 x
  · exact whole_emb i x0 x1 x2 x3 x4 x5 x6 x7 x8 8 x
  · exact whole_emb i x0 x1 x2 x3 x4 x5 x6 x7 x8 7 x
  · exact whole_emb i x0 x1 x2 x3 x4 x5 x6 x7 x8 6 x
  · exact whole_emb i x0 x1 x2 x3 x4 x5 x6 x7 x8 5 x
  · exact whole_emb i x0 x1 x2 x3 x4 x5 x6 x7 x8 4 x
  · exact whole_emb i x0 x1 x2 x3 x4 x5 x6 x7 x8 3 x
  · exact whole_emb i x0 x1 x2 x3 x4 x5 x6 x7 x8 2 x
  · exact whole_emb i x0 x1 x2 x3 x4 x5 x6 x7 x8 1 x
  · exact whole_emb i x0 x1 x2 x3 x4 x5 x6 x7 x8 0 x

end Cert.Block

end
-- ==== Proof.Words.lean ====
module
public import proofs.«01_k».proof.KernelIdeal
public import Idealize.ShloMosaic.Lib.Pointwise
@[expose] public section
set_option maxRecDepth 16384

/-! # The neighbourhood in integer words

A token `t` of the grid of 128 rows and 64 columns lies in row `t / 64` and column `t % 64`. Its neighbourhood is the
window of 8 rows and 16 columns round it, moved inwards at the grid's edge. The words here say whether a key lies in a
query's neighbourhood and at which entry of the bias table it is read. The kernel computes them for three patterns of
query blocks, the reference for every query: the facts below, each decided over all the cases, compare the two. -/

namespace Cert.Words
open Idealize.ShloMosaic

/-- `x` brought between `lo` and `hi`. -/
abbrev clampW (lo hi x : BitVec 32) : BitVec 32 := IntOp.minsi hi (IntOp.maxsi lo x)

/-- Whether row `y` is one of the 8 rows of row `x`'s window. -/
def inRow (x y : BitVec 32) : BitVec 1 :=
  IntOp.andi (IntOp.cmpi .sge y (clampW 0#32 120#32 (IntOp.subi x 4#32)))
    (IntOp.cmpi .slt y (IntOp.addi (clampW 0#32 120#32 (IntOp.subi x 4#32)) 8#32))

/-- Whether column `y` is one of the 16 columns of column `x`'s window. -/
def inCol (x y : BitVec 32) : BitVec 1 :=
  IntOp.andi (IntOp.cmpi .sge y (clampW 0#32 48#32 (IntOp.subi x 8#32)))
    (IntOp.cmpi .slt y (IntOp.addi (clampW 0#32 48#32 (IntOp.subi x 8#32)) 16#32))

/-- The table's row for query row `x` and key row `y`, and the table's column for query column `x` and key column `y`,
    a negative one counted from the end. -/
def rowDiff (x y : BitVec 32) : BitVec 32 :=
  Scalar.select (IntOp.cmpi .slt (clampW 0#32 14#32 (IntOp.subi (IntOp.addi (IntOp.subi y x) 8#32) 1#32)) 0#32)
    (IntOp.addi (clampW 0#32 14#32 (IntOp.subi (IntOp.addi (IntOp.subi y x) 8#32) 1#32)) 15#32)
    (clampW 0#32 14#32 (IntOp.subi (IntOp.addi (IntOp.subi y x) 8#32) 1#32))
@[inherit_doc rowDiff]
def colDiff (x y : BitVec 32) : BitVec 32 :=
  Scalar.select (IntOp.cmpi .slt (clampW 0#32 30#32 (IntOp.subi (IntOp.addi (IntOp.subi y x) 16#32) 1#32)) 0#32)
    (IntOp.addi (clampW 0#32 30#32 (IntOp.subi (IntOp.addi (IntOp.subi y x) 16#32) 1#32)) 31#32)
    (clampW 0#32 30#32 (IntOp.subi (IntOp.addi (IntOp.subi y x) 16#32) 1#32))

/-- A start index read signed and kept inside an axis of `n + 1` entries. -/
def entry (n : Nat) (w : BitVec 32) : Fin (n + 1) := ⟨min w.toInt.toNat n, by omega⟩

/-- The bias of head `h` for query row and column `x`, `xc` and key row and column `y`, `yc`; minus infinity outside the
    neighbourhood. -/
noncomputable def bias (rpb : (⟨3, ![16, 15, 31]⟩ : Shape).Idx → EReal) (h : Fin 16) (x y xc yc : BitVec 32) : EReal :=
  Scalar.select (IntOp.andi (inRow x y) (inCol xc yc)) (rpb (ix3 h (entry 14 (rowDiff x y)) (entry 30 (colDiff xc yc)))) ⊥

/-- The first query block, a middle one and the last have their own patterns. -/
def pat (B : Fin 32) : Fin 3 := if B.val = 0 then 0 else if B.val = 31 then 2 else 1

/-- A pattern's query block, as a word. -/
abbrev patBlock (p : Nat) : BitVec 32 :=
  Scalar.select (IntOp.cmpi .eq (BitVec.ofNat 32 p) 2#32) 31#32 (BitVec.ofNat 32 p)
/-- The row of the pattern's queries, `qr` rows below its first. -/
abbrev queryRow (p qr : Nat) : BitVec 32 := IntOp.addi (IntOp.muli (patBlock p) 4#32) (BitVec.ofNat 32 qr)
/-- The row of the pattern's keys, `kr` rows below its first. -/
abbrev keyRow (p kr : Nat) : BitVec 32 :=
  IntOp.addi (clampW 0#32 117#32 (IntOp.subi (IntOp.muli (patBlock p) 4#32) 4#32)) (BitVec.ofNat 32 kr)

/-- The first of the 11 key rows read by query block `B`. -/
def firstRow (B : Nat) : Nat := min (4 * B - 4) 117

theorem div64 : ∀ n : Fin 8192, IntOp.divsi .host (BitVec.ofNat 32 n.val) 64#32 = BitVec.ofNat 32 (n.val / 64) := by
  decide +kernel
theorem rem64 : ∀ n : Fin 8192, IntOp.remsi .host (BitVec.ofNat 32 n.val) 64#32 = BitVec.ofNat 32 (n.val % 64) := by
  decide +kernel

/-- A query block and its pattern have the same rows in the window and the same table rows. -/
theorem rows_eq : ∀ (B : Fin 32) (qr : Fin 4) (kr : Fin 11),
    inRow (queryRow (pat B).val qr.val) (keyRow (pat B).val kr.val)
        = inRow (BitVec.ofNat 32 (4 * B.val + qr.val)) (BitVec.ofNat 32 (firstRow B.val + kr.val))
      ∧ rowDiff (queryRow (pat B).val qr.val) (keyRow (pat B).val kr.val)
        = rowDiff (BitVec.ofNat 32 (4 * B.val + qr.val)) (BitVec.ofNat 32 (firstRow B.val + kr.val)) := by
  decide +kernel

/-- The window of a query's rows lies in the 11 rows its block reads. -/
theorem inRow_inside : ∀ x y : Fin 128, inRow (BitVec.ofNat 32 x.val) (BitVec.ofNat 32 y.val) = 1#1 →
    firstRow (x.val / 4) ≤ y.val ∧ y.val < firstRow (x.val / 4) + 11 := by
  decide +kernel

theorem andi_assoc : ∀ a b c d : BitVec 1, IntOp.andi (IntOp.andi (IntOp.andi a b) c) d
    = IntOp.andi (IntOp.andi a b) (IntOp.andi c d) := by
  decide +kernel

theorem andi_eq_one : ∀ a b : BitVec 1, IntOp.andi a b = 1#1 → a = 1#1 := by decide +kernel

end Cert.Words
-- ==== Proof.Gather.lean ====
module

public import proofs.«01_k».proof.Proof.Words
public import proofs.«01_k».proof.ReferenceIdeal

@[expose] public section

set_option maxRecDepth 16384

/-! # The bias table read at an array of positions

`rpb[:, dr, dc]` reads, for every head, the entry of the table at a pair of positions, each read signed and kept inside
the table. The kernel reads it at an array of patterns, queries and keys, the reference at an array of queries and keys. -/

namespace Cert.Gather
open Idealize.ShloMosaic Cert.Words

section
open Cert.KernelIdeal
variable [Facts₀] {α : Type}

theorem kernel_apply (x : S16x15x31.Idx → α) (idx : IVec S3x256x704x2 32) (h : Fin 16) (p : Fin 3) (q : Fin 256)
    (k : Fin 704) :
    Host.gather gather_S16x15x31_S3x256x704x2_S16x3x256x704_0_12_n_n_12_3_1611 x idx (ix4 h p q k)
      = x (ix3 h (entry 14 (idx (ix4 p q k 0))) (entry 30 (idx (ix4 p q k 1)))) := by
  have hsi : ∀ (n : Nat) (hn : n < 2), gather_S16x15x31_S3x256x704x2_S16x3x256x704_0_12_n_n_12_3_1611.siIdx (ix4 h p q k)
      ⟨n, hn⟩ = ix4 p q k ⟨n, hn⟩ := by
    intro n hn; funext b; refine Fin.ext ?_
    match b with
    | ⟨0, _⟩ => rfl
    | ⟨1, _⟩ => rfl
    | ⟨2, _⟩ => rfl
    | ⟨3, _⟩ => rfl
  unfold Host.gather
  congr 1
  funext a
  refine Fin.ext ?_
  show gather_S16x15x31_S3x256x704x2_S16x3x256x704_0_12_n_n_12_3_1611.start (ix4 h p q k) idx a
      + gather_S16x15x31_S3x256x704x2_S16x3x256x704_0_12_n_n_12_3_1611.batchCoord (ix4 h p q k) a
      + gather_S16x15x31_S3x256x704x2_S16x3x256x704_0_12_n_n_12_3_1611.offCoord (ix4 h p q k) a = _
  rw [GatherDims.batchCoord_eq_zero _ _ _ List.not_mem_nil]
  have hcases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcases with rfl | rfl | rfl
  · unfold GatherDims.start
    rw [dif_neg (show (0 : Fin S16x15x31.rank) ∉ gather_S16x15x31_S3x256x704x2_S16x3x256x704_0_12_n_n_12_3_1611.startIndexMap from
      (by decide : (0 : Fin 3) ∉ ([1, 2] : List (Fin 3))))]
    simp only [Nat.zero_add]
    rfl
  · rw [GatherDims.offCoord_eq_zero _ _ _ (fun h => ((GatherDims.mem_sKept _ _).mp h).1 (show (1 : Fin 3) ∈ ([1, 2] : List (Fin 3)) by decide))]
    unfold GatherDims.start
    rw [dif_pos (show (1 : Fin S16x15x31.rank) ∈ gather_S16x15x31_S3x256x704x2_S16x3x256x704_0_12_n_n_12_3_1611.startIndexMap from
      (by decide : (1 : Fin 3) ∈ ([1, 2] : List (Fin 3))))]
    exact congrArg (fun w => min (idx w).toInt.toNat 14) (hsi 0 (by decide))
  · rw [GatherDims.offCoord_eq_zero _ _ _ (fun h => ((GatherDims.mem_sKept _ _).mp h).1 (show (2 : Fin 3) ∈ ([1, 2] : List (Fin 3)) by decide))]
    unfold GatherDims.start
    rw [dif_pos (show (2 : Fin S16x15x31.rank) ∈ gather_S16x15x31_S3x256x704x2_S16x3x256x704_0_12_n_n_12_3_1611.startIndexMap from
      (by decide : (2 : Fin 3) ∈ ([1, 2] : List (Fin 3))))]
    exact congrArg (fun w => min (idx w).toInt.toNat 30) (hsi 1 (by decide))

end

section
open Cert.ReferenceIdeal
variable [Facts₀] {α : Type}

theorem reference_apply (x : S16x15x31.Idx → α) (idx : IVec S8192x8192x2 32) (h : Fin 16) (q k : Fin 8192) :
    Host.gather gather_S16x15x31_S8192x8192x2_S16x8192x8192_0_12_n_n_12_2_1611 x idx (ix3 h q k)
      = x (ix3 h (entry 14 (idx (ix3 q k 0))) (entry 30 (idx (ix3 q k 1)))) := by
  have hsi : ∀ (n : Nat) (hn : n < 2), gather_S16x15x31_S8192x8192x2_S16x8192x8192_0_12_n_n_12_2_1611.siIdx (ix3 h q k)
      ⟨n, hn⟩ = ix3 q k ⟨n, hn⟩ := by
    intro n hn; funext b; refine Fin.ext ?_
    match b with
    | ⟨0, _⟩ => rfl
    | ⟨1, _⟩ => rfl
    | ⟨2, _⟩ => rfl
  unfold Host.gather
  congr 1
  funext a
  refine Fin.ext ?_
  show gather_S16x15x31_S8192x8192x2_S16x8192x8192_0_12_n_n_12_2_1611.start (ix3 h q k) idx a
      + gather_S16x15x31_S8192x8192x2_S16x8192x8192_0_12_n_n_12_2_1611.batchCoord (ix3 h q k) a
      + gather_S16x15x31_S8192x8192x2_S16x8192x8192_0_12_n_n_12_2_1611.offCoord (ix3 h q k) a = _
  rw [GatherDims.batchCoord_eq_zero _ _ _ List.not_mem_nil]
  have hcases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hcases with rfl | rfl | rfl
  · unfold GatherDims.start
    rw [dif_neg (show (0 : Fin S16x15x31.rank) ∉ gather_S16x15x31_S8192x8192x2_S16x8192x8192_0_12_n_n_12_2_1611.startIndexMap from
      (by decide : (0 : Fin 3) ∉ ([1, 2] : List (Fin 3))))]
    simp only [Nat.zero_add]
    rfl
  · rw [GatherDims.offCoord_eq_zero _ _ _ (fun h => ((GatherDims.mem_sKept _ _).mp h).1 (show (1 : Fin 3) ∈ ([1, 2] : List (Fin 3)) by decide))]
    unfold GatherDims.start
    rw [dif_pos (show (1 : Fin S16x15x31.rank) ∈ gather_S16x15x31_S8192x8192x2_S16x8192x8192_0_12_n_n_12_2_1611.startIndexMap from
      (by decide : (1 : Fin 3) ∈ ([1, 2] : List (Fin 3))))]
    exact congrArg (fun w => min (idx w).toInt.toNat 14) (hsi 0 (by decide))
  · rw [GatherDims.offCoord_eq_zero _ _ _ (fun h => ((GatherDims.mem_sKept _ _).mp h).1 (show (2 : Fin 3) ∈ ([1, 2] : List (Fin 3)) by decide))]
    unfold GatherDims.start
    rw [dif_pos (show (2 : Fin S16x15x31.rank) ∈ gather_S16x15x31_S8192x8192x2_S16x8192x8192_0_12_n_n_12_2_1611.startIndexMap from
      (by decide : (2 : Fin 3) ∈ ([1, 2] : List (Fin 3))))]
    exact congrArg (fun w => min (idx w).toInt.toNat 30) (hsi 1 (by decide))

end

end Cert.Gather
-- ==== Proof.Host.lean ====
/- What the host prepares for the kernel: the packed projections, the shift and the table of biases. -/
module

public import proofs.«01_k».proof.Proof.Block
public import proofs.«01_k».proof.Proof.Gather
public import Idealize.ShloMosaic.Lib.StableHlo.ReadAt

@[expose] public section

set_option maxRecDepth 16384

noncomputable section

namespace Cert.HostPrep
open Cert.KernelIdeal Cert.KernelIdeal.Gen Idealize.ShloMosaic Idealize.ShloMosaic.TcCoe Idealize.SL.Sem

theorem ofBits_two : Ideal.ofBits FTy.f32 1073741824#32 = ((2 : ℝ) : EReal) := by
  simp [Ideal.ofBits, Ideal.ieee, -EReal.coe_mul]
  norm_num

/-- One over the logarithm of two. -/
theorem log2e : Ideal.div 1 (Ideal.log (Ideal.ofBits FTy.f32 1073741824#32)) = (((Real.log 2)⁻¹ : ℝ) : EReal) := by
  rw [ofBits_two, Ideal.log_coe, if_neg (by norm_num), Ideal.div_coe (Real.log_pos one_lt_two).ne', one_mul, one_div]

variable (m : (ℓ : Loc nD τ sig) → Buf (Elt Ideal) ℓ) (c : Dev nD)

/-- An argument's array, by its number. -/
abbrev arg0 : S4x8192x16x64.Idx → EReal := m (c, Proc.tc.devRef main_arg0)
@[inherit_doc arg0]
abbrev arg1 : S4x8192x16x64.Idx → EReal := m (c, Proc.tc.devRef main_arg1)
@[inherit_doc arg0]
abbrev arg2 : S4x8192x16x64.Idx → EReal := m (c, Proc.tc.devRef main_arg2)
@[inherit_doc arg0]
abbrev arg3 : S4x256x16x64.Idx → EReal := m (c, Proc.tc.devRef main_arg3)
@[inherit_doc arg0]
abbrev arg4 : S4x256x16x64.Idx → EReal := m (c, Proc.tc.devRef main_arg4)
@[inherit_doc arg0]
abbrev arg5 : S16x15x31.Idx → EReal := m (c, Proc.tc.devRef main_arg5)
@[inherit_doc arg0]
abbrev arg6 : S64.Idx → EReal := m (c, Proc.tc.devRef main_arg6)
@[inherit_doc arg0]
abbrev arg7 : S64.Idx → EReal := m (c, Proc.tc.devRef main_arg7)

theorem q_read (R : Fin 32768) (l : Fin 1024) : (V m c main_v9 (ix2 R ⟨3072 + l.val, by omega⟩) : EReal)
    = arg0 m c (ix4 ⟨R.val / 8192, by omega⟩ ⟨R.val % 8192, by omega⟩ ⟨l.val / 64, by omega⟩
        ⟨l.val % 64, by omega⟩) * (((Real.log 2)⁻¹ : ℝ) : EReal) := by
  unfold V
  after_reads_at
  after_reads_at
  rw [dif_pos (show l.val < 3072 by omega), log2e]

theorem k_read (R : Fin 32768) (l : Fin 1024) : (V m c main_v9 (ix2 R ⟨4096 + l.val, by omega⟩) : EReal)
    = arg1 m c (ix4 ⟨R.val / 8192, by omega⟩ ⟨R.val % 8192, by omega⟩ ⟨l.val / 64, by omega⟩
        ⟨l.val % 64, by omega⟩) := by
  have h1 : 3072 ≤ 4096 + l.val ∧ 4096 + l.val - 3072 < 3072 := by omega
  have h2 : ¬ 4096 + l.val - 3072 < 1024 := by omega
  have h3 : 4096 + l.val - 3072 - 1024 < 1024 := by omega
  have h4 : 4096 + l.val - 3072 - 1024 = l.val := by omega
  unfold V
  after_reads_at
  after_reads_at
  rw [dif_pos h1, dif_neg h2, dif_pos h3]
  simp only [h4]

theorem v_read (R : Fin 32768) (l : Fin 1024) : (V m c main_v9 (ix2 R ⟨5120 + l.val, by omega⟩) : EReal)
    = arg2 m c (ix4 ⟨R.val / 8192, by omega⟩ ⟨R.val % 8192, by omega⟩ ⟨l.val / 64, by omega⟩
        ⟨l.val % 64, by omega⟩) := by
  have h1 : 3072 ≤ 5120 + l.val ∧ 5120 + l.val - 3072 < 3072 := by omega
  have h2 : ¬ 5120 + l.val - 3072 < 1024 := by omega
  have h3 : ¬ 5120 + l.val - 3072 - 1024 < 1024 := by omega
  have h4 : 5120 + l.val - 3072 - 1024 - 1024 = l.val := by omega
  unfold V
  after_reads_at
  after_reads_at
  rw [dif_pos h1, dif_neg h2, dif_neg h3]
  simp only [h4]

theorem kc_read (R : Fin 1024) (l : Fin 1024) : (V m c main_v14 (ix2 R ⟨4096 + l.val, by omega⟩) : EReal)
    = arg3 m c (ix4 ⟨R.val / 256, by omega⟩ ⟨R.val % 256, by omega⟩ ⟨l.val / 64, by omega⟩
        ⟨l.val % 64, by omega⟩) := by
  unfold V
  after_reads_at
  after_reads_at
  rw [dif_pos (show l.val < 2048 by omega)]

theorem vc_read (R : Fin 1024) (l : Fin 1024) : (V m c main_v14 (ix2 R ⟨5120 + l.val, by omega⟩) : EReal)
    = arg4 m c (ix4 ⟨R.val / 256, by omega⟩ ⟨R.val % 256, by omega⟩ ⟨l.val / 64, by omega⟩
        ⟨l.val % 64, by omega⟩) := by
  have h1 : 4096 ≤ 5120 + l.val ∧ 5120 + l.val - 4096 < 2048 := by omega
  have h2 : ¬ 5120 + l.val - 4096 < 1024 := by omega
  have h4 : 5120 + l.val - 4096 - 1024 = l.val := by omega
  unfold V
  after_reads_at
  after_reads_at
  rw [dif_pos h1, dif_neg h2]
  simp only [h4]

end Cert.HostPrep
-- ==== Proof.Table.lean ====
/- The kernel's table of biases, read at a pattern, a head, a query and a key. -/
module

public import proofs.«01_k».proof.Proof.Host

@[expose] public section

set_option maxRecDepth 16384

noncomputable section

namespace Cert.Table
open Cert.KernelIdeal Cert.KernelIdeal.Gen Idealize.ShloMosaic Idealize.ShloMosaic.TcCoe Idealize.SL.Sem
open Cert.HostPrep Cert.Words

theorem neg_inf : Ideal.ofBits FTy.f32 4286578688#32 = ⊥ := by
  simp [Ideal.ofBits, Ideal.ieee, -EReal.coe_mul]

theorem masked : (id (constant (F := Ideal) S_ FTy.f32 4286578688#32) ix0 : EReal) = ⊥ := neg_inf

theorem join_left (a b : S3x256x704x1.Idx → BitVec 32) (p : Fin 3) (q : Fin 256) (k : Fin 704) :
    concatenate S3x256x704x2 3 [⟨S3x256x704x1, a⟩, ⟨S3x256x704x1, b⟩]
      concatenates_S3x256x704x1_S3x256x704x1_S3x256x704x2_d3 (ix4 p q k 0) = a (ix4 p q k 0) := by
  pointwise []

theorem join_right (a b : S3x256x704x1.Idx → BitVec 32) (p : Fin 3) (q : Fin 256) (k : Fin 704) :
    concatenate S3x256x704x2 3 [⟨S3x256x704x1, a⟩, ⟨S3x256x704x1, b⟩]
      concatenates_S3x256x704x1_S3x256x704x1_S3x256x704x2_d3 (ix4 p q k 1) = b (ix4 p q k 0) := by
  pointwise []

variable (m : (ℓ : Loc nD τ sig) → Buf (Elt Ideal) ℓ) (c : Dev nD)

/-- What the host operations before the table's positions leave in the buffers. -/
abbrev before := StableHlo.upto
  [hostOps0 (F := Ideal), hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18,
    hostOps0_19, hostOps0_20].flatten (fun b => m (c, b)) 179

theorem rowDiff_read (p : Fin 3) (q : Fin 256) (k : Fin 704) :
    before m c (Proc.tc.devRef main_v98) (ix4 p q k 0)
      = rowDiff (queryRow p.val (q.val / 64)) (keyRow p.val (k.val / 64)) := by
  have hq := div64 ⟨q.val, by omega⟩
  have hk := div64 ⟨k.val, by omega⟩
  unfold before
  after_reads_at
  simp only at hq hk
  rw [hq, hk]
  rfl

theorem colDiff_read (p : Fin 3) (q : Fin 256) (k : Fin 704) :
    before m c (Proc.tc.devRef main_v99) (ix4 p q k 0)
      = colDiff (BitVec.ofNat 32 (q.val % 64)) (BitVec.ofNat 32 (k.val % 64)) := by
  have hq := rem64 ⟨q.val, by omega⟩
  have hk := rem64 ⟨k.val, by omega⟩
  unfold before
  after_reads_at
  simp only at hq hk
  rw [hq, hk]
  rfl

set_option maxHeartbeats 1000000 in
theorem table_read (p : Fin 3) (h : Fin 16) (q : Fin 256) (k : Fin 704) : (V m c main_v107 (ix4 p h q k) : EReal)
    = Scalar.select (IntOp.andi (inRow (queryRow p.val (q.val / 64)) (keyRow p.val (k.val / 64)))
          (inCol (BitVec.ofNat 32 (q.val % 64)) (BitVec.ofNat 32 (k.val % 64))))
        (arg5 m c (ix3 h (entry 14 (rowDiff (queryRow p.val (q.val / 64)) (keyRow p.val (k.val / 64))))
            (entry 30 (colDiff (BitVec.ofNat 32 (q.val % 64)) (BitVec.ofNat 32 (k.val % 64)))))
          * (((Real.log 2)⁻¹ : ℝ) : EReal) - (V m c main_v108 (ix2 0 0) : EReal)) ⊥ := by
  have hq := div64 ⟨q.val, by omega⟩
  have hk := div64 ⟨k.val, by omega⟩
  have hq' := rem64 ⟨q.val, by omega⟩
  have hk' := rem64 ⟨k.val, by omega⟩
  have hr := rowDiff_read m c p q k
  have hc := colDiff_read m c p q k
  simp only at hq hk hq' hk'
  unfold before at hr hc
  unfold V
  after_reads_at
  rw [Gather.kernel_apply, join_left, join_right]
  rw [hr, hc]
  rw [log2e]
  rw [masked]
  rw [andi_assoc]
  rw [hq, hk, hq', hk']
  rfl

end Cert.Table
-- ==== Proof.TileValue.lean ====
/- The value of one tile in real arithmetic: per head, the weighted sum of the values over the window keys and the context
   keys, divided by the sum of the weights, which the lane of ones delivers. -/
module

public import proofs.«01_k».proof.Proof.Block

@[expose] public section

set_option maxRecDepth 16384

noncomputable section

namespace Cert.TileValue

open Cert.KernelIdeal Cert.KernelIdeal.Gen Idealize.ShloMosaic Idealize.ShloMosaic.TcCoe Idealize.SL.Sem
open Cert.Block

/-- Lane `d` of head `h` among the 128 lanes of a pair of heads. -/
def lane (h : Fin 2) (d : Fin 64) : Fin 128 := ⟨64 * h.val + d.val, by omega⟩

/-- One output element of one head: weights are powers of two of the scores. -/
def headOut (sh : EReal) (q : Fin 64 → EReal) (kw vw : Fin 704 → Fin 64 → EReal) (kc vc : Fin 256 → Fin 64 → EReal)
    (b : Fin 704 → EReal) (d : Fin 64) : EReal :=
  Ideal.div (∑ k, Ideal.exp2 (∑ e, q e * kw k e + b k) * vw k d + ∑ c, Ideal.exp2 (∑ e, q e * kc c e - sh) * vc c d)
    (∑ k, Ideal.exp2 (∑ e, q e * kw k e + b k) * 1 + ∑ c, Ideal.exp2 (∑ e, q e * kc c e - sh) * 1)

theorem bit_slt : ∀ l : Fin 128, IntOp.cmpi CmpIPredicate.slt (BitVec.ofNat 32 l.val) 64#32 = if l.val < 64 then 1#1 else 0#1 := by
  decide +kernel
theorem bit_sge : ∀ l : Fin 128, IntOp.cmpi CmpIPredicate.sge (BitVec.ofNat 32 l.val) 64#32 = if l.val < 64 then 0#1 else 1#1 := by
  decide +kernel
theorem select_one {α : Type} (x y : α) : Scalar.select 1#1 x y = x := rfl
theorem select_zero {α : Type} (x y : α) : Scalar.select 0#1 x y = y := rfl

theorem sitofp_one : (FloatOps.sitofp FTy.f32 (BitVec.setWidth 32 1#1) : Ideal .f32) = 1 := by
  show (((BitVec.setWidth 32 1#1).toInt : ℝ) : EReal) = 1
  have : (BitVec.setWidth 32 1#1 : BitVec 32).toInt = 1 := by decide
  rw [this]; norm_num

theorem sum_lane0 (f g : Fin 128 → EReal) :
    ∑ x : Fin 128, (if x.val < 64 then f x else 0) * g x = ∑ d, f (lane 0 d) * g (lane 0 d) := by
  rw [Fin.sum_univ_add (a := 64) (b := 64)]
  have h1 : ∀ d : Fin 64, (Fin.castAdd 64 d) = lane 0 d := fun d => Fin.ext (by simp [lane])
  have h2 : ∀ d : Fin 64, ¬ (Fin.natAdd 64 d).val < 64 := fun d => by simp
  have h3 : ∀ d : Fin 64, (lane 0 d).val < 64 := fun d => by simp [lane]
  simp only [h1, h2, h3, if_true, if_false, zero_mul, Finset.sum_const_zero, add_zero]

theorem sum_lane1 (f g : Fin 128 → EReal) :
    ∑ x : Fin 128, (if x.val < 64 then 0 else f x) * g x = ∑ d, f (lane 1 d) * g (lane 1 d) := by
  rw [Fin.sum_univ_add (a := 64) (b := 64)]
  have h1 : ∀ d : Fin 64, (Fin.natAdd 64 d) = lane 1 d := fun d => Fin.ext (by simp [lane, Nat.add_comm])
  have h2 : ∀ d : Fin 64, (Fin.castAdd 64 d).val < 64 := fun d => by simp
  have h3 : ∀ d : Fin 64, ¬ (lane 1 d).val < 64 := fun d => by simp [lane]
  simp only [h1, h2, h3, if_true, if_false, zero_mul, Finset.sum_const_zero, zero_add]

variable (sh : Vec Ideal S1x1 .f32) (q : Vec Ideal S256x128 .bf16) (kw vw : Vec Ideal S704x128 .bf16) (kc vc : Vec Ideal S256x128 .bf16)
    (b0 b1 : Vec Ideal S1x1x256x704 .f32)

theorem pay8 (r : Fin 256) (l : Fin 128) : k0_pay8 k0_pay6 k0_pay7 q (ix2 r l) = if l.val < 64 then q (ix2 r l) else 0 := by
  pointwise [k0_pay8, k0_pay6, k0_pay7]
  rw [bit_slt]; split <;> rfl

theorem pay10 (r : Fin 256) (l : Fin 128) : k0_pay10 k0_pay6 k0_pay7 q (ix2 r l) = if l.val < 64 then 0 else q (ix2 r l) := by
  pointwise [k0_pay10, k0_pay6, k0_pay7]
  rw [bit_slt]; split <;> rfl

theorem pay14 (r : Fin 256) (k : Fin 704) : k0_pay14 k0_pay6 k0_pay7 q kw b0 (ix2 r k)
    = Ideal.exp2 (∑ e, q (ix2 r (lane 0 e)) * kw (ix2 k (lane 0 e)) + b0 (ix4 0 0 r k)) := by
  pointwise [k0_pay14]
  simp only [pay8]
  rw [sum_lane0 (fun x => q (ix2 r x)) (fun x => kw (ix2 k x))]; rfl

theorem pay9 (r : Fin 256) (k : Fin 256) : k0_pay9 (k0_pay3 kc) k0_pay6 k0_pay7 q (ix2 r k)
    = ∑ e, q (ix2 r (lane 0 e)) * kc (ix2 k (lane 0 e)) := by
  pointwise [k0_pay9, k0_pay3]
  simp only [pay8]
  rw [sum_lane0 (fun x => q (ix2 r x)) (fun x => kc (ix2 k x))]

theorem pay11 (r : Fin 256) (k : Fin 704) : k0_pay11 k0_pay6 k0_pay7 q kw b1 (ix2 r k)
    = ∑ e, q (ix2 r (lane 1 e)) * kw (ix2 k (lane 1 e)) + b1 (ix4 0 0 r k) := by
  pointwise [k0_pay11]
  simp only [pay10]
  rw [sum_lane1 (fun x => q (ix2 r x)) (fun x => kw (ix2 k x))]

theorem pay12 (r : Fin 256) (k : Fin 256) : k0_pay12 (k0_pay3 kc) k0_pay6 k0_pay7 q (ix2 r k)
    = ∑ e, q (ix2 r (lane 1 e)) * kc (ix2 k (lane 1 e)) := by
  pointwise [k0_pay12, k0_pay3]
  simp only [pay10]
  rw [sum_lane1 (fun x => q (ix2 r x)) (fun x => kc (ix2 k x))]

theorem pay4_lane (r : Fin 256) (d : Fin 64) : k0_pay4 vc (ix2 r (lane 0 d)) = vc (ix2 r (lane 0 d)) := by
  pointwise [k0_pay4]
  rw [bit_slt, if_pos (by simp [lane])]; rfl

theorem pay4_one (r : Fin 256) : k0_pay4 vc (ix2 r 64) = 1 := by
  pointwise [k0_pay4]
  exact sitofp_one

theorem pay5_lane (r : Fin 256) (d : Fin 64) : k0_pay5 vc (ix2 r (lane 1 d)) = vc (ix2 r (lane 1 d)) := by
  pointwise [k0_pay5]
  rw [bit_sge, if_neg (by simp [lane])]; rfl

theorem pay5_one (r : Fin 256) : k0_pay5 vc (ix2 r 0) = 1 := by
  pointwise [k0_pay5]
  exact sitofp_one

theorem pay15 (r : Fin 256) (d : Fin 64) :
    k0_pay15 (k0_pay2 sh) (k0_pay4 vc) (k0_pay9 (k0_pay3 kc) k0_pay6 k0_pay7 q) (k0_pay13 vw)
      (k0_pay14 k0_pay6 k0_pay7 q kw b0) (ix2 r (lane 0 d))
    = headOut (sh (ix2 0 0)) (fun e => q (ix2 r (lane 0 e))) (fun k e => kw (ix2 k (lane 0 e))) (fun k e => vw (ix2 k (lane 0 e)))
        (fun c e => kc (ix2 c (lane 0 e))) (fun c e => vc (ix2 c (lane 0 e))) (fun k => b0 (ix4 0 0 r k)) d := by
  pointwise [k0_pay15, k0_pay2, k0_pay13]
  simp only [pay14, pay9, pay4_lane, pay4_one]
  rw [bit_slt, if_pos (by simp [lane])]
  have h64 : IntOp.cmpi CmpIPredicate.slt 64#32 64#32 = 0#1 := by decide
  simp only [h64, select_zero, select_one, sitofp_one]
  rfl

theorem tile_head0 (r : Fin 256) (d : Fin 64) :
    tile sh q kw vw kc vc b0 b1 (ix2 r (lane 0 d))
    = headOut (sh (ix2 0 0)) (fun e => q (ix2 r (lane 0 e))) (fun k e => kw (ix2 k (lane 0 e))) (fun k e => vw (ix2 k (lane 0 e)))
        (fun c e => kc (ix2 c (lane 0 e))) (fun c e => vc (ix2 c (lane 0 e))) (fun k => b0 (ix4 0 0 r k)) d := by
  rw [← pay15]
  unfold tile
  generalize k0_pay15 (F := Ideal) _ _ _ _ _ = P
  unfold k0_pay19
  show Scalar.select (k0_pay6 (ix2 r (lane 0 d))) (P (ix2 r (lane 0 d))) _ = _
  have : k0_pay6 (ix2 r (lane 0 d)) = 1#1 := by
    pointwise [k0_pay6]
    rw [bit_slt, if_pos (by simp [lane])]
  rw [this, select_one]

theorem tile_head1 (r : Fin 256) (d : Fin 64) :
    tile sh q kw vw kc vc b0 b1 (ix2 r (lane 1 d))
    = headOut (sh (ix2 0 0)) (fun e => q (ix2 r (lane 1 e))) (fun k e => kw (ix2 k (lane 1 e))) (fun k e => vw (ix2 k (lane 1 e)))
        (fun c e => kc (ix2 c (lane 1 e))) (fun c e => vc (ix2 c (lane 1 e))) (fun k => b1 (ix4 0 0 r k)) d := by
  unfold tile
  generalize k0_pay15 (F := Ideal) _ _ _ _ _ = P
  pointwise [k0_pay19, k0_pay2]
  have : k0_pay6 (ix2 r (lane 1 d)) = 0#1 := by
    pointwise [k0_pay6]
    rw [bit_slt, if_neg (by simp [lane])]
  rw [this, select_zero]
  simp only [pay11, pay12, pay5_lane, pay5_one]
  rw [bit_sge, if_neg (by simp [lane])]
  have h64 : IntOp.cmpi CmpIPredicate.sge 0#32 64#32 = 0#1 := by decide
  simp only [h64, select_zero, select_one, sitofp_one]
  rfl

end Cert.TileValue

end
-- ==== Proof.Reads.lean ====
/- The blocks of a grid point, read at an element: entries of the arguments. -/
module

public import proofs.«01_k».proof.Proof.Table
public import proofs.«01_k».proof.Proof.TileValue

@[expose] public section

set_option maxRecDepth 16384

noncomputable section

namespace Cert.Reads
open Cert.KernelIdeal Cert.KernelIdeal.Gen Idealize.ShloMosaic Idealize.ShloMosaic.TcCoe Idealize.SL.Sem
open Cert.HostPrep Cert.TileValue

variable (m : (ℓ : Loc nD τ sig) → Buf (Elt Ideal) ℓ) (c : Dev nD) (t : Fin cfg0.N)

theorem N_eq : cfg0.N = 64 := by decide

/-- A point's batch, its pair of heads, and its half of the sequence. -/
abbrev batch (t : Fin grid0.N) : Fin 4 := ⟨t.val / 16, by have := t.isLt; have : grid0.N = 64 := (by decide); omega⟩
@[inherit_doc batch]
abbrev pair (t : Fin grid0.N) : Fin 8 := ⟨t.val / 2 % 8, by omega⟩
@[inherit_doc batch]
abbrev half (t : Fin grid0.N) : Fin 2 := ⟨t.val % 2, by omega⟩

theorem index0 : ∀ t : Fin cfg0.N, win0_0.index t = ![0, 0] :=
  (by decide +kernel : ∀ t : Fin grid0.N, _)
theorem index1 : ∀ t : Fin cfg0.N, win0_1.index t = ![(batch t).val * 2 + (half t).val, 24 + (pair t).val] :=
  (by decide +kernel : ∀ t : Fin grid0.N, _)
theorem index2 : ∀ t : Fin cfg0.N, win0_2.index t = ![(batch t).val, 32 + (pair t).val] :=
  (by decide +kernel : ∀ t : Fin grid0.N, _)
theorem index3 : ∀ t : Fin cfg0.N, win0_3.index t = ![(batch t).val, 40 + (pair t).val] :=
  (by decide +kernel : ∀ t : Fin grid0.N, _)
theorem index4 : ∀ t : Fin cfg0.N, win0_4.index t = ![(batch t).val, 32 + (pair t).val] :=
  (by decide +kernel : ∀ t : Fin grid0.N, _)
theorem index5 : ∀ t : Fin cfg0.N, win0_5.index t = ![(batch t).val, 40 + (pair t).val] :=
  (by decide +kernel : ∀ t : Fin grid0.N, _)
theorem index6 : ∀ t : Fin cfg0.N, win0_6.index t = ![if (half t).val = 0 then 0 else 1, (pair t).val, 0, 0] :=
  (by decide +kernel : ∀ t : Fin grid0.N, _)
theorem index7 : ∀ t : Fin cfg0.N, win0_7.index t = ![1, (pair t).val, 0, 0] :=
  (by decide +kernel : ∀ t : Fin grid0.N, _)
theorem index8 : ∀ t : Fin cfg0.N, win0_8.index t = ![if (half t).val = 0 then 1 else 2, (pair t).val, 0, 0] :=
  (by decide +kernel : ∀ t : Fin grid0.N, _)
theorem index9 : ∀ t : Fin cfg0.N, win0_9.index t = ![(batch t).val * 2 + (half t).val, (pair t).val] :=
  (by decide +kernel : ∀ t : Fin grid0.N, _)

/-- Where tile `j` of a point starts to read keys. -/
theorem start_eq : ∀ (t : Fin grid0.N) (j : Fin 16), k0_off1 (grid0.coords t) (BitVec.ofNat 32 j.val)
    = ![64 * Words.firstRow (16 * (half t).val + j.val), 0] := by
  decide +kernel

theorem block0 : (iblk m c 0 t (ix2 0 0) : EReal) = V m c main_v108 (ix2 0 0) := by
  blk_simp [iblk]
  congr 1
  blk_ext [index0]

theorem block1 (r : Fin 4096) (h : Fin 2) (e : Fin 64) : (iblk m c 1 t (ix2 r (lane h e)) : EReal)
    = arg0 m c (ix4 (batch t) ⟨4096 * (half t).val + r.val, by omega⟩ ⟨2 * (pair t).val + h.val, by omega⟩ e)
      * (((Real.log 2)⁻¹ : ℝ) : EReal) := by
  have hN : t.val < 64 := t.isLt
  have he : (iblk m c 1 t (ix2 r (lane h e)) : EReal) = V m c main_v9 (ix2 ⟨(t.val / 16 * 2 + t.val % 2) * 4096 + r.val, by omega⟩
      ⟨3072 + (128 * (pair t).val + (64 * h.val + e.val)), by omega⟩) := by
    blk_simp [iblk]
    congr 1
    blk_ext [index1, lane]
  rw [he, q_read m c ⟨(t.val / 16 * 2 + t.val % 2) * 4096 + r.val, by omega⟩ ⟨128 * (pair t).val + (64 * h.val + e.val), by omega⟩]
  congr 3 <;> refine Fin.ext ?_ <;> dsimp only <;> omega

theorem block2 (r : Fin 8192) (h : Fin 2) (e : Fin 64) : (iblk m c 2 t (ix2 r (lane h e)) : EReal)
    = arg1 m c (ix4 (batch t) r ⟨2 * (pair t).val + h.val, by omega⟩ e) := by
  have hN : t.val < 64 := t.isLt
  have he : (iblk m c 2 t (ix2 r (lane h e)) : EReal) = V m c main_v9 (ix2 ⟨t.val / 16 * 8192 + r.val, by omega⟩
      ⟨4096 + (128 * (pair t).val + (64 * h.val + e.val)), by omega⟩) := by
    blk_simp [iblk]
    congr 1
    blk_ext [index2, lane]
  rw [he, k_read m c ⟨t.val / 16 * 8192 + r.val, by omega⟩ ⟨128 * (pair t).val + (64 * h.val + e.val), by omega⟩]
  congr 2 <;> refine Fin.ext ?_ <;> dsimp only <;> omega

theorem block3 (r : Fin 8192) (h : Fin 2) (e : Fin 64) : (iblk m c 3 t (ix2 r (lane h e)) : EReal)
    = arg2 m c (ix4 (batch t) r ⟨2 * (pair t).val + h.val, by omega⟩ e) := by
  have hN : t.val < 64 := t.isLt
  have he : (iblk m c 3 t (ix2 r (lane h e)) : EReal) = V m c main_v9 (ix2 ⟨t.val / 16 * 8192 + r.val, by omega⟩
      ⟨5120 + (128 * (pair t).val + (64 * h.val + e.val)), by omega⟩) := by
    blk_simp [iblk]
    congr 1
    blk_ext [index3, lane]
  rw [he, v_read m c ⟨t.val / 16 * 8192 + r.val, by omega⟩ ⟨128 * (pair t).val + (64 * h.val + e.val), by omega⟩]
  congr 2 <;> refine Fin.ext ?_ <;> dsimp only <;> omega

theorem block4 (r : Fin 256) (h : Fin 2) (e : Fin 64) : (iblk m c 4 t (ix2 r (lane h e)) : EReal)
    = arg3 m c (ix4 (batch t) r ⟨2 * (pair t).val + h.val, by omega⟩ e) := by
  have hN : t.val < 64 := t.isLt
  have he : (iblk m c 4 t (ix2 r (lane h e)) : EReal) = V m c main_v14 (ix2 ⟨t.val / 16 * 256 + r.val, by omega⟩
      ⟨4096 + (128 * (pair t).val + (64 * h.val + e.val)), by omega⟩) := by
    blk_simp [iblk]
    congr 1
    blk_ext [index4, lane]
  rw [he, kc_read m c ⟨t.val / 16 * 256 + r.val, by omega⟩ ⟨128 * (pair t).val + (64 * h.val + e.val), by omega⟩]
  congr 2 <;> refine Fin.ext ?_ <;> dsimp only <;> omega

theorem block5 (r : Fin 256) (h : Fin 2) (e : Fin 64) : (iblk m c 5 t (ix2 r (lane h e)) : EReal)
    = arg4 m c (ix4 (batch t) r ⟨2 * (pair t).val + h.val, by omega⟩ e) := by
  have hN : t.val < 64 := t.isLt
  have he : (iblk m c 5 t (ix2 r (lane h e)) : EReal) = V m c main_v14 (ix2 ⟨t.val / 16 * 256 + r.val, by omega⟩
      ⟨5120 + (128 * (pair t).val + (64 * h.val + e.val)), by omega⟩) := by
    blk_simp [iblk]
    congr 1
    blk_ext [index5, lane]
  rw [he, vc_read m c ⟨t.val / 16 * 256 + r.val, by omega⟩ ⟨128 * (pair t).val + (64 * h.val + e.val), by omega⟩]
  congr 2 <;> refine Fin.ext ?_ <;> dsimp only <;> omega

theorem block6 (h : Fin 2) (r : Fin 256) (k : Fin 704) : (iblk m c 6 t (ix4 0 h r k) : EReal)
    = V m c main_v107 (ix4 ⟨if (half t).val = 0 then 0 else 1, by split <;> decide⟩ ⟨2 * (pair t).val + h.val, by omega⟩ r k) := by
  blk_simp [iblk]
  congr 1
  blk_ext [index6]

theorem block7 (h : Fin 2) (r : Fin 256) (k : Fin 704) : (iblk m c 7 t (ix4 0 h r k) : EReal)
    = V m c main_v107 (ix4 1 ⟨2 * (pair t).val + h.val, by omega⟩ r k) := by
  blk_simp [iblk]
  congr 1
  blk_ext [index7]

theorem block8 (h : Fin 2) (r : Fin 256) (k : Fin 704) : (iblk m c 8 t (ix4 0 h r k) : EReal)
    = V m c main_v107 (ix4 ⟨if (half t).val = 0 then 1 else 2, by split <;> decide⟩ ⟨2 * (pair t).val + h.val, by omega⟩ r k) := by
  blk_simp [iblk]
  congr 1
  blk_ext [index8]

end Cert.Reads
-- ==== Proof.Softmax.lean ====
/- The mathematics of the claim, on extended reals and free of any program: weights that are all scaled by one
   positive number give the same normalised sum; the power of two of a score in bits is the exponential of the
   score; a sum over a row of keys that vanishes outside a window is the sum over the window. -/
module

public import Idealize.ShloMosaic.PureOps.Ideal

@[expose] public section

set_option maxRecDepth 4096

noncomputable section

namespace Cert.Softmax

open Idealize.ShloMosaic

/-- A finite sum of reals, read as an extended real, is the sum of the terms read so. -/
theorem coe_sum {α : Type*} (s : Finset α) (f : α → ℝ) : ((∑ a ∈ s, f a : ℝ) : EReal) = ∑ a ∈ s, (f a : EReal) :=
  map_sum (⟨⟨Real.toEReal, rfl⟩, EReal.coe_add⟩ : ℝ →+ EReal) f s

/-- A nonnegative real factor distributes over a finite sum of extended reals. -/
theorem mul_sum_of_nonneg {α : Type*} (s : Finset α) (c : ℝ) (hc : 0 ≤ c) (f : α → EReal) :
    (c : EReal) * ∑ a ∈ s, f a = ∑ a ∈ s, (c : EReal) * f a := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The quotient by a nonzero real of a product with that real. -/
theorem div_mul_cancel {c : ℝ} (hc : c ≠ 0) (x : EReal) : Ideal.div ((c : EReal) * x) (c : EReal) = x := by
  rw [Ideal.div_coe hc, mul_comm, ← mul_assoc, ← EReal.coe_mul, one_div, inv_mul_cancel₀ hc, EReal.coe_one, one_mul]

/-- Normalising after the weighted sum, with every weight scaled by `C`, is summing with normalised weights. -/
theorem normalised {α β : Type*} [Fintype α] [Fintype β] (w : α → ℝ) (u : β → ℝ) (C : ℝ) (hC : 0 < C)
    (hw : ∀ a, 0 ≤ w a) (hu : ∀ b, 0 ≤ u b) (hpos : 0 < ∑ a, w a + ∑ b, u b) (f : α → EReal) (g : β → EReal) :
    Ideal.div (∑ a, ((C * w a : ℝ) : EReal) * f a + ∑ b, ((C * u b : ℝ) : EReal) * g b)
        (∑ a, ((C * w a : ℝ) : EReal) * 1 + ∑ b, ((C * u b : ℝ) : EReal) * 1)
      = ∑ a, f a * Ideal.div (w a) ((∑ a, w a + ∑ b, u b : ℝ) : EReal)
        + ∑ b, g b * Ideal.div (u b) ((∑ a, w a + ∑ b, u b : ℝ) : EReal) := by
  generalize hW : ∑ a, w a + ∑ b, u b = W at hpos ⊢
  have hWC : 0 < C * W := mul_pos hC hpos
  have hden : (∑ a, ((C * w a : ℝ) : EReal) * 1 + ∑ b, ((C * u b : ℝ) : EReal) * 1) = ((C * W : ℝ) : EReal) := by
    simp only [mul_one]
    rw [← coe_sum, ← coe_sum, ← EReal.coe_add, ← Finset.mul_sum, ← Finset.mul_sum, ← mul_add, hW]
  have key : ∀ (x : ℝ) (y : EReal), ((C * x : ℝ) : EReal) * y = ((C * W : ℝ) : EReal) * (y * Ideal.div (x : EReal) (W : EReal)) := by
    intro x y
    have h0 : C * x = C * W * (x * (1 / W)) := by
      rw [mul_one_div, mul_assoc, mul_div_cancel₀ x hpos.ne']
    rw [Ideal.div_coe hpos.ne', h0, EReal.coe_mul (C * W), EReal.coe_mul x, mul_assoc, mul_comm y]
  have hnum : (∑ a, ((C * w a : ℝ) : EReal) * f a + ∑ b, ((C * u b : ℝ) : EReal) * g b)
      = ((C * W : ℝ) : EReal) * (∑ a, f a * Ideal.div (w a) (W : EReal) + ∑ b, g b * Ideal.div (u b) (W : EReal)) := by
    rw [EReal.left_distrib_of_nonneg_of_ne_top (by exact_mod_cast hWC.le) (EReal.coe_ne_top _),
      mul_sum_of_nonneg _ _ hWC.le, mul_sum_of_nonneg _ _ hWC.le]
    exact congrArg₂ _ (Finset.sum_congr rfl fun a _ => key _ _) (Finset.sum_congr rfl fun b _ => key _ _)
  rw [hden, hnum, div_mul_cancel hWC.ne']

/-- The weight that a score has against the level `M`: its exponential, and zero where the score is minus infinity. -/
def weight (x : EReal) (M : ℝ) : ℝ := if x = ⊥ then 0 else Real.exp (x.toReal - M)

theorem weight_nonneg (x : EReal) (M : ℝ) : 0 ≤ weight x M := by
  unfold weight; split
  · exact le_rfl
  · exact (Real.exp_pos _).le

theorem weight_coe (r M : ℝ) : weight (r : EReal) M = Real.exp (r - M) := by
  unfold weight; rw [if_neg (EReal.coe_ne_bot r), EReal.toReal_coe]

theorem weight_bot (M : ℝ) : weight ⊥ M = 0 := if_pos rfl

/-- The exponential of a score less the level. -/
theorem exp_sub_eq_weight {x : EReal} (hx : x ≠ ⊤) (M : ℝ) : Ideal.exp (x - (M : EReal)) = (weight x M : EReal) := by
  induction x with
  | bot => rw [EReal.bot_sub, weight_bot]; rfl
  | top => exact absurd rfl hx
  | coe r => rw [← EReal.coe_sub, weight_coe]; rfl

/-- The factor between the kernel's weights, taken at the shift `σ` (in bits), and those at the level `M`. -/
def factor (M σ : ℝ) : ℝ := Real.exp (M - σ * Real.log 2)

theorem factor_pos (M σ : ℝ) : 0 < factor M σ := Real.exp_pos _

/-- The power of two of a finite score in bits less the shift. -/
theorem exp2_score (r M σ : ℝ) :
    Ideal.exp2 (((r * (Real.log 2)⁻¹ - σ : ℝ)) : EReal) = ((factor M σ * weight (r : EReal) M : ℝ) : EReal) := by
  have h2 : Real.log 2 ≠ 0 := (Real.log_pos one_lt_two).ne'
  rw [weight_coe, factor, ← Real.exp_add, Ideal.exp2_coe]
  congr 1
  show (2 : ℝ) ^ (r * (Real.log 2)⁻¹ - σ) = _
  rw [Real.rpow_def_of_pos two_pos]
  congr 1
  field_simp
  ring

/-- A masked score has power of two zero. -/
theorem exp2_masked (M σ : ℝ) : Ideal.exp2 ⊥ = ((factor M σ * weight ⊥ M : ℝ) : EReal) := by
  rw [weight_bot, mul_zero]; rfl

/-- A sum over `n` keys of a function that vanishes outside the window of `w` keys from `s` on. -/
theorem sum_window {M : Type*} [AddCommMonoid M] {n w : ℕ} (s : ℕ) (hs : s + w ≤ n) (F : Fin n → M)
    (h0 : ∀ k : Fin n, (k.val < s ∨ s + w ≤ k.val) → F k = 0) :
    ∑ j : Fin w, F ⟨s + j.val, by omega⟩ = ∑ k, F k := by
  refine Finset.sum_of_injOn (fun j : Fin w => (⟨s + j.val, by omega⟩ : Fin n)) ?_ ?_ ?_ ?_
  · intro a _ b _ h
    have := congrArg Fin.val h
    exact Fin.ext (by simpa using this)
  · intro a _; exact Finset.mem_coe.mpr (Finset.mem_univ _)
  · intro k _ hk
    refine h0 k ?_
    by_contra hc
    refine hk ⟨⟨k.val - s, by omega⟩, Finset.mem_coe.mpr (Finset.mem_univ _), Fin.ext ?_⟩
    show s + (k.val - s) = k.val
    omega
  · intro a _; rfl

/-- The maximum over finitely many scores, none of which is plus infinity and one of which is finite, is finite. -/
theorem fold_max_finite {α : Type*} [Fintype α] (f : α → EReal) (hf : ∀ a, f a ≠ ⊤) (a₀ : α) (h₀ : f a₀ ≠ ⊥) :
    ∃ M : ℝ, Finset.univ.sup f = (M : EReal) := by
  have hb : Finset.univ.sup f ≠ ⊥ := fun h => h₀ (le_bot_iff.mp (h ▸ Finset.le_sup (f := f) (Finset.mem_univ a₀)))
  have ht : Finset.univ.sup f ≠ ⊤ := by
    have : Finset.univ.sup f < ⊤ := (Finset.sup_lt_iff (bot_lt_top)).mpr fun a _ => lt_top_iff_ne_top.mpr (hf a)
    exact this.ne
  exact ⟨_, (EReal.coe_toReal ht hb).symm⟩

end Cert.Softmax

end
-- ==== Proof.Attend.lean ====
/- One output element of the attention in real arithmetic: what the kernel sums over a window of keys, in bits and less a
   shift, is the softmax attention over all keys. -/
module

public import proofs.«01_k».proof.Proof.Softmax

@[expose] public section

noncomputable section

namespace Cert.Attend
open Idealize.ShloMosaic Cert.Softmax

/-- The softmax attention over the keys of scores `S` and the context keys of scores `T`, at the level `M`. -/
def softmaxOut {n c : ℕ} (M : ℝ) (S : Fin n → EReal) (T : Fin c → ℝ) (f : Fin n → EReal) (g : Fin c → EReal) : EReal :=
  ∑ k, f k * Ideal.div (weight (S k) M) ((∑ k, weight (S k) M + ∑ b, weight (T b : EReal) M : ℝ) : EReal)
    + ∑ b, g b * Ideal.div (weight (T b : EReal) M) ((∑ k, weight (S k) M + ∑ b, weight (T b : EReal) M : ℝ) : EReal)

/-- A score in bits, with its bias in bits less the shift: its power of two is a fixed multiple of the weight. -/
theorem exp2_biased (r : ℝ) (β : EReal) (hβ : β ≠ ⊤) (M σ : ℝ) (b : EReal)
    (hb : b = if β = ⊥ then ⊥ else β * ((Real.log 2)⁻¹ : ℝ) - (σ : EReal)) :
    Ideal.exp2 (((r * (Real.log 2)⁻¹ : ℝ) : EReal) + b) = ((factor M σ * weight ((r : EReal) + β) M : ℝ) : EReal) := by
  subst hb
  induction β with
  | bot => rw [if_pos rfl, EReal.add_bot, EReal.add_bot, exp2_masked M σ]
  | top => exact absurd rfl hβ
  | coe x =>
    rw [if_neg (EReal.coe_ne_bot x), ← EReal.coe_mul, ← EReal.coe_sub, ← EReal.coe_add, ← EReal.coe_add, ← exp2_score]
    congr 2; ring

/-- The window's sums are the softmax attention over all keys, when every key outside the window is masked. -/
theorem window {n w c : ℕ} (hc : 0 < c) (M σ : ℝ) (s : ℕ) (hs : s + w ≤ n) (S : Fin n → EReal) (T : Fin c → ℝ)
    (hout : ∀ k : Fin n, (k.val < s ∨ s + w ≤ k.val) → S k = ⊥) (x : Fin w → EReal) (y : Fin c → EReal)
    (hx : ∀ j : Fin w, x j = ((factor M σ * weight (S ⟨s + j.val, by omega⟩) M : ℝ) : EReal))
    (hy : ∀ b, y b = ((factor M σ * weight (T b : EReal) M : ℝ) : EReal)) (f : Fin n → EReal) (g : Fin c → EReal) :
    Ideal.div (∑ j, x j * f ⟨s + j.val, by omega⟩ + ∑ b, y b * g b) (∑ j, x j * 1 + ∑ b, y b * 1)
      = softmaxOut M S T f g := by
  have hW : ∑ j : Fin w, weight (S ⟨s + j.val, by omega⟩) M = ∑ k, weight (S k) M :=
    sum_window s hs (fun k => weight (S k) M) fun k hk => by rw [hout k hk, weight_bot]
  have hpos : 0 < ∑ j : Fin w, weight (S ⟨s + j.val, by omega⟩) M + ∑ b, weight (T b : EReal) M := by
    refine add_pos_of_nonneg_of_pos (Finset.sum_nonneg fun _ _ => weight_nonneg _ _)
      (Finset.sum_pos (fun b _ => ?_) ⟨⟨0, hc⟩, Finset.mem_univ _⟩)
    rw [weight_coe]; exact Real.exp_pos _
  simp only [hx, hy]
  rw [normalised _ _ (factor M σ) (factor_pos M σ) (fun _ => weight_nonneg _ _) (fun _ => weight_nonneg _ _) hpos
    (fun j : Fin w => f ⟨s + j.val, by omega⟩) g, hW]
  unfold softmaxOut
  congr 1
  refine sum_window s hs (fun k => f k * Ideal.div (weight (S k) M) _) fun k hk => ?_
  rw [hout k hk, weight_bot]
  rw [hW] at hpos
  rw [Ideal.div_coe hpos.ne', EReal.coe_zero, zero_mul, mul_zero]

end Cert.Attend
-- ==== Proof.Head.lean ====
/- One output element of the kernel from real queries and keys: the softmax attention over all keys. -/
module

public import proofs.«01_k».proof.Proof.TileValue
public import proofs.«01_k».proof.Proof.Attend

@[expose] public section

set_option maxRecDepth 16384

noncomputable section

namespace Cert.Head
open Idealize.ShloMosaic Cert.Softmax Cert.Attend Cert.TileValue

/-- A score in bits: the queries are scaled by `c`. -/
theorem score (c : ℝ) (Q K : Fin 64 → ℝ) :
    ∑ e, ((Q e : EReal) * (c : EReal)) * (K e : EReal) = (((∑ e, Q e * K e) * c : ℝ) : EReal) := by
  simp only [← EReal.coe_mul]
  rw [← coe_sum, Finset.sum_mul]
  congr 1
  exact Finset.sum_congr rfl fun e _ => by ring

variable (M σ : ℝ) (s : ℕ) (hs : s + 704 ≤ 8192) (Q : Fin 64 → ℝ) (K : Fin 8192 → Fin 64 → ℝ) (KC : Fin 256 → Fin 64 → ℝ)
  (β : Fin 8192 → EReal) (f : Fin 8192 → EReal) (g : Fin 256 → EReal)

theorem head (hβ : ∀ k, β k ≠ ⊤) (hout : ∀ k, (k.val < s ∨ s + 704 ≤ k.val) → β k = ⊥)
    (sh : EReal) (q : Fin 64 → EReal) (kw vw : Fin 704 → Fin 64 → EReal) (kc vc : Fin 256 → Fin 64 → EReal) (b : Fin 704 → EReal)
    (d : Fin 64) (hsh : sh = (σ : EReal)) (hq : ∀ e, q e = (Q e : EReal) * (((Real.log 2)⁻¹ : ℝ) : EReal))
    (hk : ∀ (k : Fin 704) e, kw k e = (K ⟨s + k.val, by omega⟩ e : EReal))
    (hv : ∀ k : Fin 704, vw k d = f ⟨s + k.val, by omega⟩) (hkc : ∀ k e, kc k e = (KC k e : EReal)) (hvc : ∀ k, vc k d = g k)
    (hb : ∀ k : Fin 704, b k = if β ⟨s + k.val, by omega⟩ = ⊥ then ⊥
      else β ⟨s + k.val, by omega⟩ * (((Real.log 2)⁻¹ : ℝ) : EReal) - (σ : EReal)) :
    headOut sh q kw vw kc vc b d
      = softmaxOut M (fun k => ((∑ e, Q e * K k e : ℝ) : EReal) + β k) (fun k => ∑ e, Q e * KC k e) f g := by
  unfold headOut
  simp only [hq, hk, hkc, hv, hvc, hsh, score]
  refine window (by decide) M σ s hs (fun k => ((∑ e, Q e * K k e : ℝ) : EReal) + β k) (fun k => ∑ e, Q e * KC k e)
    (fun k hk => by simp only [hout k hk, EReal.add_bot]) _ _ (fun k => ?_) (fun k => ?_) f g
  · exact exp2_biased _ _ (hβ _) M σ _ (hb k)
  · rw [← EReal.coe_sub]; exact exp2_score _ M σ

end Cert.Head
-- ==== Proof.Shift.lean ====
/- The shift of the attention's exponents is a real number. -/
module

public import proofs.«01_k».proof.Proof.Host

@[expose] public section

set_option maxRecDepth 16384

noncomputable section

namespace Cert.Shift
open Cert.KernelIdeal Cert.KernelIdeal.Gen Idealize.ShloMosaic Idealize.ShloMosaic.TcCoe Idealize.SL.Sem
open Cert.HostPrep

/-- An extended real that is a real number. -/
def IsReal (x : EReal) : Prop := ∃ r : ℝ, x = (r : EReal)

theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩
theorem IsReal.neg {x : EReal} : IsReal x → IsReal (-x) := fun ⟨a, ha⟩ => ⟨-a, by rw [ha, EReal.coe_neg]⟩
theorem IsReal.max {x y : EReal} (hx : IsReal x) (hy : IsReal y) : IsReal (max x y) := by
  rcases max_choice x y with h | h <;> rw [h] <;> assumption
theorem IsReal.zero : IsReal 0 := ⟨0, rfl⟩
theorem IsReal.coe (r : ℝ) : IsReal (r : EReal) := ⟨r, rfl⟩

/-- The largest of finitely many real numbers, at least one, is one. -/
theorem IsReal.fold {α : Type*} [Fintype α] (a₀ : α) (f : α → EReal) (hf : ∀ a, IsReal (f a)) :
    IsReal (Finset.fold (Max.max : EReal → EReal → EReal) (Ideal.ofBits FTy.f32 4286578688#32) f Finset.univ) := by
  have hb : Ideal.ofBits FTy.f32 4286578688#32 = ⊥ := by simp [Ideal.ofBits, Ideal.ieee, -EReal.coe_mul]
  rw [hb]
  have key : ∀ s : Finset α, s.Nonempty → IsReal (Finset.fold (Max.max : EReal → EReal → EReal) ⊥ f s) := by
    classical
    intro s hs
    induction hs using Finset.Nonempty.cons_induction with
    | singleton a => rw [Finset.fold_singleton, max_bot_right]; exact hf a
    | cons a s h hs ih => rw [Finset.fold_cons]; exact (hf a).max ih
  exact key _ ⟨a₀, Finset.mem_univ _⟩

/-- A constant with a finite word is a real number. -/
theorem IsReal.ofBits (w : BitVec 32) (h : (w.extractLsb' 23 8).toNat ≠ 2 ^ 8 - 1) : IsReal (Ideal.ofBits FTy.f32 w) := by
  show IsReal (Ideal.ieee 8 23 w)
  unfold Ideal.ieee
  simp only [if_neg h]
  split <;> exact IsReal.coe _

variable (m : (ℓ : Loc nD τ sig) → Buf (Elt Ideal) ℓ) (c : Dev nD)

set_option maxHeartbeats 1000000 in
theorem shift_real (h5 : ∀ i, IsReal (arg5 m c i)) (h6 : ∀ i, IsReal (arg6 m c i)) (h7 : ∀ i, IsReal (arg7 m c i)) :
    IsReal (V m c main_v108 (ix2 0 0)) := by
  have abs6 : IsReal (Finset.fold (Max.max : EReal → EReal → EReal) (Ideal.ofBits FTy.f32 4286578688#32)
      (fun k : Fin 64 => FloatOps.absf (F := Ideal) (φ := FTy.f32) (arg6 m c (ix1 k))) Finset.univ) :=
    IsReal.fold 0 _ fun k => (h6 _).max (h6 _).neg
  have abs7 : IsReal (Finset.fold (Max.max : EReal → EReal → EReal) (Ideal.ofBits FTy.f32 4286578688#32)
      (fun k : Fin 64 => FloatOps.absf (F := Ideal) (φ := FTy.f32) (arg7 m c (ix1 k))) Finset.univ) :=
    IsReal.fold 0 _ fun k => (h7 _).max (h7 _).neg
  have tab : IsReal (Finset.fold (Max.max : EReal → EReal → EReal) (Ideal.ofBits FTy.f32 4286578688#32)
      (fun k : Fin 16 × Fin 15 × Fin 31 => arg5 m c (ix3 k.1 k.2.1 k.2.2)) Finset.univ) :=
    IsReal.fold (0, 0, 0) _ fun k => h5 _
  unfold V
  after_reads_at
  refine iteInduction (fun _ => ?_) (fun _ => ?_)
  · refine IsReal.add (IsReal.mul (IsReal.mul (IsReal.ofBits _ (by decide)) (IsReal.mul (IsReal.mul abs6 (IsReal.ofBits _ (by decide))) (IsReal.ofBits _ (by decide))))
      (IsReal.mul abs7 (IsReal.ofBits _ (by decide)))) (IsReal.max (IsReal.mul tab (IsReal.ofBits _ (by decide))) IsReal.zero)
  · exact IsReal.ofBits 0#32 (by decide)

end Cert.Shift
-- ==== Proof.RefValue.lean ====
/- The reference's value: at a token and a head, the softmax attention over the tokens of the neighbourhood and the
   context, every token outside the neighbourhood masked. -/
module

public import proofs.«01_k».proof.Proof.Gather
public import proofs.«01_k».proof.Proof.Attend
public import proofs.«01_k».proof.Proof.Gen.ReferenceIdeal.Read

@[expose] public section

set_option maxRecDepth 16384

noncomputable section

namespace Cert.RefValue
open Cert.ReferenceIdeal Cert.ReferenceIdeal.Gen Cert.ReferenceIdeal.Read
open Idealize.ShloMosaic Idealize.ShloMosaic.TcCoe Idealize.SL.Sem Idealize.ShloMosaic.StableHlo
open Cert.Softmax Cert.Attend

/-- The row and the column of token `t`, as words. -/
abbrev rowW (t : Nat) : BitVec 32 := BitVec.ofNat 32 (t / 64)
@[inherit_doc rowW]
abbrev colW (t : Nat) : BitVec 32 := BitVec.ofNat 32 (t % 64)

section
variable (x0 x1 x2 : (⟨S4x8192x16x64, .f32⟩ : BufTy).Contents (Elt Ideal)) (x3 x4 : (⟨S4x256x16x64, .f32⟩ : BufTy).Contents (Elt Ideal)) (x5 : (⟨S16x15x31, .f32⟩ : BufTy).Contents (Elt Ideal))

theorem row_read (t : Fin 8192) : val_main_v2 (F := Ideal) (ix1 t) = rowW t.val := by
  pointwise [val_main_v2, val_main_v1, val_main_v0, val_main_c]
  exact Words.div64 t

theorem col_read (t : Fin 8192) : val_main_v4 (F := Ideal) (ix1 t) = colW t.val := by
  pointwise [val_main_v4, val_main_v3, val_main_v0, val_main_c_0]
  exact Words.rem64 t

theorem inRow_read (t k : Fin 8192) : val_main_v23 (F := Ideal) (ix2 t k) = Words.inRow (rowW t.val) (rowW k.val) := by
  pointwise [val_main_v23, val_main_v22, val_main_v21, val_main_v20, val_main_v19, val_main_v18, val_main_v17, val_main_v16,
    val_main_v15, val_main_v14, val_main_v13, val_main_v12, val_main_v11, val_main_v7, val_main_call0_v4,
    val_main_call0_v3, val_main_call0_v2, val_main_call0_v1, val_main_call0_v0, val_main_v6, val_main_v5, row_read]
  rfl

theorem inCol_read (t k : Fin 8192) : val_main_v36 (F := Ideal) (ix2 t k) = Words.inCol (colW t.val) (colW k.val) := by
  pointwise [val_main_v36, val_main_v35, val_main_v34, val_main_v33, val_main_v32, val_main_v31, val_main_v30, val_main_v29,
    val_main_v28, val_main_v27, val_main_v26, val_main_v25, val_main_v24, val_main_v10, val_main_call1_v4,
    val_main_call1_v3, val_main_call1_v2, val_main_call1_v1, val_main_call1_v0, val_main_v9, val_main_v8, col_read]
  rfl

theorem rowDiff_read (t k : Fin 8192) : val_main_v63 (F := Ideal) (ix2 t k) = Words.rowDiff (rowW t.val) (rowW k.val) := by
  pointwise [val_main_v63, val_main_v62, val_main_v61, val_main_v60, val_main_v59, val_main_v46, val_main_call2_v4,
    val_main_call2_v3, val_main_call2_v2, val_main_call2_v1, val_main_call2_v0, val_main_v45, val_main_v44, val_main_v43,
    val_main_v42, val_main_v41, val_main_v40, val_main_v39, val_main_v38, val_main_v37, row_read]
  rfl

theorem colDiff_read (t k : Fin 8192) : val_main_v68 (F := Ideal) (ix2 t k) = Words.colDiff (colW t.val) (colW k.val) := by
  pointwise [val_main_v68, val_main_v67, val_main_v66, val_main_v65, val_main_v64, val_main_v56, val_main_call3_v4,
    val_main_call3_v3, val_main_call3_v2, val_main_call3_v1, val_main_call3_v0, val_main_v55, val_main_v54, val_main_v53,
    val_main_v52, val_main_v51, val_main_v50, val_main_v49, val_main_v48, val_main_v47, col_read]
  rfl

theorem pair_read (t k : Fin 8192) : val_main_v71 (F := Ideal) (ix3 t k 0) = Words.rowDiff (rowW t.val) (rowW k.val)
    ∧ val_main_v71 (F := Ideal) (ix3 t k 1) = Words.colDiff (colW t.val) (colW k.val) := by
  constructor
  · pointwise [val_main_v71, val_main_v70, val_main_v69, rowDiff_read, colDiff_read]
  · pointwise [val_main_v71, val_main_v70, val_main_v69, rowDiff_read, colDiff_read]

theorem neg_inf : Ideal.ofBits FTy.f32 0xFF800000#32 = ⊥ := by
  simp [Ideal.ofBits, Ideal.ieee, -EReal.coe_mul]

/-- The bias of a pair of tokens. -/
theorem bias_read (h : Fin 16) (t k : Fin 8192) :
    val_main_v73 x5 (ix3 h t k) = Words.bias x5 h (rowW t.val) (rowW k.val) (colW t.val) (colW k.val) := by
  pointwise [val_main_v73, val_main_call4_v2, val_main_call4_v1, val_main_call4_v0, val_main_v72, val_main_v58, val_main_v57,
    inRow_read, inCol_read]
  unfold Words.bias
  rw [Gather.reference_apply, (pair_read t k).1, (pair_read t k).2]
  show Scalar.select _ _ (Ideal.ofBits FTy.f32 0xFF800000#32) = _
  rw [neg_inf]

theorem window_read (b : Fin 4) (h : Fin 16) (t k : Fin 8192) :
    val_main_v74 x0 x1 (ix4 b h t k) = ∑ e : Fin 64, x0 (ix4 b t h e) * x1 (ix4 b k h e) := by
  pointwise [val_main_v74]

theorem context_read (b : Fin 4) (h : Fin 16) (t : Fin 8192) (k : Fin 256) :
    val_main_v78 x0 x3 (ix4 b h t k) = ∑ e : Fin 64, x0 (ix4 b t h e) * x3 (ix4 b k h e) := by
  pointwise [val_main_v78]

/-- The maximum of the scores of one query: the reference's reduction over the joined keys. -/
def scoreMax (y : S4x16x8192x8448.Idx → EReal) (z : S_.Idx → EReal) : S4x16x8192.Idx → EReal :=
  Host.reduce (α := EReal) (FloatOps.maximumf (F := Ideal) (φ := FTy.f32)) y z
    reducesTo_S4x16x8192x8448_S4x16x8192_d3 h_S_

theorem fold_read (y : S4x16x8192x8448.Idx → EReal) (z : S_.Idx → EReal) (b : Fin 4) (h : Fin 16) (t : Fin 8192) :
    scoreMax y z (ix3 b h t)
      = Finset.fold max (z (Shape.Idx.first h_S_)) (fun k => y (ix4 b h t k)) Finset.univ := by
  unfold scoreMax
  pointwise []

theorem fold_max_eq_sup {α : Type*} (s : Finset α) (f : α → EReal) (z : EReal) (hz : z = ⊥) :
    Finset.fold max z f s = s.sup f := by
  subst hz; rfl

theorem reduce_read (y : S4x16x8192x8448.Idx → EReal) (z : S_.Idx → EReal) (hz : z (Shape.Idx.first h_S_) = ⊥)
    (b : Fin 4) (h : Fin 16) (t : Fin 8192) :
    scoreMax y z (ix3 b h t) = Finset.univ.sup fun k => y (ix4 b h t k) :=
  (fold_read y z b h t).trans (fold_max_eq_sup _ _ _ hz)

theorem v80_eq : val_main_v80 x0 x1 x3 x5 = scoreMax (val_main_v79 x0 x1 x3 x5) (val_main_cst_21 (F := Ideal)) := rfl

theorem init_read : (val_main_cst_21 (F := Ideal) (Shape.Idx.first h_S_) : EReal) = ⊥ := neg_inf

theorem max_read (b : Fin 4) (h : Fin 16) (t : Fin 8192) :
    (val_main_v80 x0 x1 x3 x5 (ix3 b h t) : EReal)
      = Finset.univ.sup (α := EReal) fun k => val_main_v79 x0 x1 x3 x5 (ix4 b h t k) := by
  rw [v80_eq]
  exact reduce_read _ _ init_read b h t

/-- The scores' exponentials less the level `X`, each divided by their sum: the reference's operations on arrays. -/
def levelled (Y : S4x16x8192x8448.Idx → EReal) (X : S4x16x8192.Idx → EReal) : FVec Ideal S4x16x8192x8448 .f32 :=
  Host.exp (subf (φ := .f32) Y (broadcastInDim S4x16x8192x8448 ![0, 1, 2, 3] bcast_S4x16x8192x1_S4x16x8192x8448_0_1_2_3
    (broadcastInDim S4x16x8192x1 ![0, 1, 2] bcast_S4x16x8192_S4x16x8192x1_0_1_2
      (maximumf (φ := .f32) (broadcastInDim S4x16x8192 ![] bcast_S_S4x16x8192 (val_main_cst_22 (F := Ideal))) X))))

@[inherit_doc levelled]
def normal (E : S4x16x8192x8448.Idx → EReal) : FVec Ideal S4x16x8192x8448 .f32 :=
  Host.divf (φ := .f32) E (broadcastInDim S4x16x8192x8448 ![0, 1, 2, 3] bcast_S4x16x8192x1_S4x16x8192x8448_0_1_2_3
    (broadcastInDim S4x16x8192x1 ![0, 1, 2] bcast_S4x16x8192_S4x16x8192x1_0_1_2
      (Host.reduceAdd (φ := .f32) E (val_main_cst_23 (F := Ideal)) reducesTo_S4x16x8192x8448_S4x16x8192_d3 h_S_)))

theorem low_read : (val_main_cst_22 (F := Ideal) ix0 : EReal) = ⊥ := neg_inf

theorem zero_read : (val_main_cst_23 (F := Ideal) (Shape.Idx.first h_S_) : EReal) = 0 := by
  show Ideal.ofBits FTy.f32 0#32 = 0
  pointwise []

theorem levelled_read (Y : S4x16x8192x8448.Idx → EReal) (X : S4x16x8192.Idx → EReal) (b : Fin 4) (h : Fin 16) (t : Fin 8192)
    (k : Fin 8448) : (levelled Y X (ix4 b h t k) : EReal) = Ideal.exp (Y (ix4 b h t k) - X (ix3 b h t)) := by
  have e : (levelled Y X (ix4 b h t k) : EReal)
      = Ideal.exp (Y (ix4 b h t k) - max (α := EReal) (val_main_cst_22 (F := Ideal) ix0) (X (ix3 b h t))) := by
    unfold levelled
    pointwise []
  rw [e, low_read, max_eq_right bot_le]

theorem normal_read (E : S4x16x8192x8448.Idx → EReal) (b : Fin 4) (h : Fin 16) (t : Fin 8192) (k : Fin 8448) :
    (normal E (ix4 b h t k) : EReal) = Ideal.div (E (ix4 b h t k)) (∑ l : Fin 8448, E (ix4 b h t l)) := by
  have e : (normal E (ix4 b h t k) : EReal)
      = Ideal.div (E (ix4 b h t k)) ((val_main_cst_23 (F := Ideal) (Shape.Idx.first h_S_) : EReal) + ∑ l : Fin 8448, E (ix4 b h t l)) := by
    unfold normal
    pointwise []
  rw [e, zero_read, zero_add]

theorem v90_eq : val_main_v90 x0 x1 x3 x5 = normal (levelled (val_main_v79 x0 x1 x3 x5) (val_main_v80 x0 x1 x3 x5)) := rfl

theorem norm_pure (Y : S4x16x8192x8448.Idx → EReal) (X : S4x16x8192.Idx → EReal) (b : Fin 4) (h : Fin 16) (t : Fin 8192)
    (k : Fin 8448) : (normal (levelled Y X) (ix4 b h t k) : EReal)
      = Ideal.div (Ideal.exp (Y (ix4 b h t k) - X (ix3 b h t))) (∑ l : Fin 8448, Ideal.exp (Y (ix4 b h t l) - X (ix3 b h t))) := by
  rw [normal_read]
  simp only [levelled_read]

theorem out_read (R : Fin 32768) (L : Fin 1024) : val_main_v99 x0 x1 x2 x3 x4 x5 (ix2 R L)
    = ∑ k : Fin 8192, x2 (ix4 ⟨R.val / 8192, by omega⟩ k ⟨L.val / 64, by omega⟩ ⟨L.val % 64, by omega⟩)
        * val_main_v90 x0 x1 x3 x5 (ix4 ⟨R.val / 8192, by omega⟩ ⟨L.val / 64, by omega⟩ ⟨R.val % 8192, by omega⟩ ⟨k.val, by omega⟩)
      + ∑ k : Fin 256, x4 (ix4 ⟨R.val / 8192, by omega⟩ k ⟨L.val / 64, by omega⟩ ⟨L.val % 64, by omega⟩)
        * val_main_v90 x0 x1 x3 x5 (ix4 ⟨R.val / 8192, by omega⟩ ⟨L.val / 64, by omega⟩ ⟨R.val % 8192, by omega⟩ ⟨8192 + k.val, by omega⟩) := by
  pointwise [val_main_v99, val_main_v98, val_main_v97, val_main_v96, val_main_v95, val_main_v94, val_main_v93, val_main_v92,
    val_main_v91]

theorem left_read (b : Fin 4) (h : Fin 16) (t k : Fin 8192) : val_main_v79 x0 x1 x3 x5 (ix4 b h t ⟨k.val, by omega⟩)
    = ∑ e : Fin 64, x0 (ix4 b t h e) * x1 (ix4 b k h e)
      + Words.bias x5 h (rowW t.val) (rowW k.val) (colW t.val) (colW k.val) := by
  pointwise [val_main_v79, val_main_v77, val_main_v76, val_main_v75]
  rw [window_read, bias_read]

theorem right_read (b : Fin 4) (h : Fin 16) (t : Fin 8192) (k : Fin 256) :
    val_main_v79 x0 x1 x3 x5 (ix4 b h t ⟨8192 + k.val, by omega⟩) = ∑ e : Fin 64, x0 (ix4 b t h e) * x3 (ix4 b k h e) := by
  pointwise [val_main_v79, val_main_v77, val_main_v76, val_main_v75]
  rw [context_read]

end

/-! ## With finite queries, keys and biases -/

section
variable (Q K : S4x8192x16x64.Idx → ℝ) (KC : S4x256x16x64.Idx → ℝ) (B : S16x15x31.Idx → ℝ)
  (x2 : (⟨S4x8192x16x64, .f32⟩ : BufTy).Contents (Elt Ideal)) (x4 : (⟨S4x256x16x64, .f32⟩ : BufTy).Contents (Elt Ideal))

/-- Real arrays as the programs' arrays. -/
abbrev up4 (Q : S4x8192x16x64.Idx → ℝ) : (⟨S4x8192x16x64, .f32⟩ : BufTy).Contents (Elt Ideal) := fun i => ((Q i : ℝ) : EReal)
@[inherit_doc up4]
abbrev upC (KC : S4x256x16x64.Idx → ℝ) : (⟨S4x256x16x64, .f32⟩ : BufTy).Contents (Elt Ideal) := fun i => ((KC i : ℝ) : EReal)
@[inherit_doc up4]
abbrev upB (B : S16x15x31.Idx → ℝ) : (⟨S16x15x31, .f32⟩ : BufTy).Contents (Elt Ideal) := fun i => ((B i : ℝ) : EReal)

/-- The score of token `k` for token `t`'s query, minus infinity outside the neighbourhood. -/
def keyScore (b : Fin 4) (h : Fin 16) (t k : Fin 8192) : EReal :=
  ((∑ e : Fin 64, Q (ix4 b t h e) * K (ix4 b k h e) : ℝ) : EReal)
    + Words.bias (fun i => (B i : EReal)) h (rowW t.val) (rowW k.val) (colW t.val) (colW k.val)

/-- The score of context token `k`. -/
def contextScore (b : Fin 4) (h : Fin 16) (t : Fin 8192) (k : Fin 256) : ℝ := ∑ e : Fin 64, Q (ix4 b t h e) * KC (ix4 b k h e)

theorem bias_ne_top (h : Fin 16) (x y xc yc : BitVec 32) : Words.bias (fun i => (B i : EReal)) h x y xc yc ≠ ⊤ := by
  unfold Words.bias Scalar.select
  split
  · exact EReal.coe_ne_top _
  · exact bot_ne_top

theorem keyScore_ne_top (b : Fin 4) (h : Fin 16) (t k : Fin 8192) : keyScore Q K B b h t k ≠ ⊤ :=
  EReal.add_ne_top (EReal.coe_ne_top _) (bias_ne_top B h _ _ _ _)

theorem left_score (b : Fin 4) (h : Fin 16) (t k : Fin 8192) :
    val_main_v79 (up4 Q) (up4 K) (upC KC) (upB B) (ix4 b h t ⟨k.val, by omega⟩) = keyScore Q K B b h t k := by
  refine (left_read _ _ _ _ b h t k).trans ?_
  unfold keyScore
  rw [coe_sum]
  simp only [EReal.coe_mul]

theorem right_score (b : Fin 4) (h : Fin 16) (t : Fin 8192) (k : Fin 256) :
    val_main_v79 (up4 Q) (up4 K) (upC KC) (upB B) (ix4 b h t ⟨8192 + k.val, by omega⟩) = (contextScore Q KC b h t k : EReal) := by
  refine (right_read _ _ _ _ b h t k).trans ?_
  unfold contextScore
  rw [coe_sum]
  simp only [EReal.coe_mul]

/-- The softmax of one query's scores, written over the joined keys, is the softmax attention over the two groups. -/
theorem joined (Y : S4x16x8192x8448.Idx → EReal) (X : S4x16x8192.Idx → EReal) (b : Fin 4) (h : Fin 16) (t : Fin 8192)
    (S : Fin 8192 → EReal) (T : Fin 256 → ℝ) (hS : ∀ k, S k ≠ ⊤)
    (hl : ∀ k : Fin 8192, Y (ix4 b h t ⟨k.val, by omega⟩) = S k)
    (hr : ∀ k : Fin 256, Y (ix4 b h t ⟨8192 + k.val, by omega⟩) = (T k : EReal))
    (hm : X (ix3 b h t) = Finset.univ.sup fun k => Y (ix4 b h t k)) (f : Fin 8192 → EReal) (g : Fin 256 → EReal) :
    ∃ M : ℝ, ∑ k : Fin 8192, f k * (normal (levelled Y X) (ix4 b h t ⟨k.val, by omega⟩) : EReal)
        + ∑ k : Fin 256, g k * (normal (levelled Y X) (ix4 b h t ⟨8192 + k.val, by omega⟩) : EReal) = softmaxOut M S T f g := by
  obtain ⟨M, hM⟩ := fold_max_finite (fun k : Fin 8448 => Y (ix4 b h t k))
    (fun k => by
      by_cases hk : k.val < 8192
      · exact (hl ⟨k.val, hk⟩).trans_ne (hS _)
      · have := hr ⟨k.val - 8192, by omega⟩
        rw [show (⟨8192 + (k.val - 8192), by omega⟩ : Fin 8448) = k from Fin.ext (by simp; omega)] at this
        exact this.trans_ne (EReal.coe_ne_top _))
    ⟨8192 + 0, by omega⟩ ((hr ⟨0, by omega⟩).trans_ne (EReal.coe_ne_bot _))
  refine ⟨M, ?_⟩
  have hD : ∑ k : Fin 8448, Ideal.exp (Y (ix4 b h t k) - (M : EReal))
      = ((∑ k, weight (S k) M + ∑ k, weight (T k : EReal) M : ℝ) : EReal) := by
    have := Fin.sum_univ_add (a := 8192) (b := 256) (fun k => Ideal.exp (Y (ix4 b h t k) - (M : EReal)))
    refine this.trans ?_
    rw [EReal.coe_add, coe_sum, coe_sum]
    refine congrArg₂ _ (Finset.sum_congr rfl fun k _ => ?_) (Finset.sum_congr rfl fun k _ => ?_)
    · rw [← exp_sub_eq_weight (hS k), ← hl k]; rfl
    · rw [← exp_sub_eq_weight (EReal.coe_ne_top _), ← hr k]; rfl
  unfold softmaxOut
  refine congrArg₂ _ (Finset.sum_congr rfl fun k _ => ?_) (Finset.sum_congr rfl fun k _ => ?_)
  · rw [norm_pure, hm, hM, hD, hl k, exp_sub_eq_weight (hS k)]
  · rw [norm_pure, hm, hM, hD, hr k, exp_sub_eq_weight (EReal.coe_ne_top _)]

/-- The reference's element: the softmax attention of the token's query. -/
theorem value (R : Fin 32768) (L : Fin 1024) : ∃ M : ℝ,
    (val_main_v99 (up4 Q) (up4 K) x2 (upC KC) x4 (upB B) (ix2 R L) : EReal)
      = softmaxOut M (keyScore Q K B ⟨R.val / 8192, by omega⟩ ⟨L.val / 64, by omega⟩ ⟨R.val % 8192, by omega⟩)
          (contextScore Q KC ⟨R.val / 8192, by omega⟩ ⟨L.val / 64, by omega⟩ ⟨R.val % 8192, by omega⟩)
          (fun k => x2 (ix4 ⟨R.val / 8192, by omega⟩ k ⟨L.val / 64, by omega⟩ ⟨L.val % 64, by omega⟩))
          (fun k => x4 (ix4 ⟨R.val / 8192, by omega⟩ k ⟨L.val / 64, by omega⟩ ⟨L.val % 64, by omega⟩)) := by
  obtain ⟨M, h⟩ := joined (val_main_v79 (up4 Q) (up4 K) (upC KC) (upB B)) (val_main_v80 (up4 Q) (up4 K) (upC KC) (upB B))
    ⟨R.val / 8192, by omega⟩ ⟨L.val / 64, by omega⟩ ⟨R.val % 8192, by omega⟩ _ _
    (keyScore_ne_top Q K B _ _ _) (left_score Q K KC B _ _ _) (right_score Q K KC B _ _ _) (max_read _ _ _ _ _ _ _)
    (fun k => x2 (ix4 ⟨R.val / 8192, by omega⟩ k ⟨L.val / 64, by omega⟩ ⟨L.val % 64, by omega⟩))
    (fun k => x4 (ix4 ⟨R.val / 8192, by omega⟩ k ⟨L.val / 64, by omega⟩ ⟨L.val % 64, by omega⟩))
  refine ⟨M, (out_read _ _ _ _ _ _ R L).trans ?_⟩
  rw [v90_eq]
  exact h

end
end Cert.RefValue
-- ==== Proof.Final.lean ====
/- The kernel's result is the reference's. -/
module

public import proofs.«01_k».proof.Proof.Reads
public import proofs.«01_k».proof.Proof.Head
public import proofs.«01_k».proof.Proof.Shift
public import proofs.«01_k».proof.Proof.RefValue

@[expose] public section

set_option maxRecDepth 16384

noncomputable section

namespace Cert.Final
open Cert.KernelIdeal Cert.KernelIdeal.Gen Idealize.ShloMosaic Idealize.ShloMosaic.TcCoe Idealize.SL.Sem
open Cert.HostPrep Cert.TileValue Cert.Reads Cert.Attend

variable (m : (ℓ : Loc nD τ sig) → Buf (Elt Ideal) ℓ) (c : Dev nD) (t : Fin cfg0.N)

/-- The bias of a token `x` and a token `y` for head `h`. -/
def pairBias (B : S16x15x31.Idx → ℝ) (h : Fin 16) (x y : Nat) : EReal :=
  Words.bias (fun i => (B i : EReal)) h (RefValue.rowW x) (RefValue.rowW y) (RefValue.colW x) (RefValue.colW y)

/-- A token whose rows are not read has no bias but minus infinity. -/
theorem outside (B : S16x15x31.Idx → ℝ) (h : Fin 16) (b : Fin 32) (r : Fin 256) (k : Fin 8192)
    (hk : k.val < 64 * Words.firstRow b.val ∨ 64 * Words.firstRow b.val + 704 ≤ k.val) :
    pairBias B h (256 * b.val + r.val) k.val = ⊥ := by
  unfold pairBias Words.bias Scalar.select
  rw [if_neg]
  intro hm
  have hi := Words.inRow_inside ⟨(256 * b.val + r.val) / 64, by omega⟩ ⟨k.val / 64, by omega⟩ (Words.andi_eq_one _ _ hm)
  simp only at hi
  have : (256 * b.val + r.val) / 64 / 4 = b.val := by omega
  rw [this] at hi
  omega

/-- The table's entry at a query block's pattern: the bias in bits less the shift. -/
theorem table_bias (B : S16x15x31.Idx → ℝ) (hB : ∀ i, arg5 m c i = (B i : EReal)) (σ : ℝ) (hσ : (V m c main_v108 (ix2 0 0) : EReal) = (σ : EReal))
    (h : Fin 16) (b : Fin 32) (r : Fin 256) (k : Fin 704) :
    (V m c main_v107 (ix4 (Words.pat b) h r k) : EReal)
      = if pairBias B h (256 * b.val + r.val) (64 * Words.firstRow b.val + k.val) = ⊥ then ⊥
        else pairBias B h (256 * b.val + r.val) (64 * Words.firstRow b.val + k.val) * (((Real.log 2)⁻¹ : ℝ) : EReal) - (σ : EReal) := by
  rw [Table.table_read, hσ]
  obtain ⟨e1, e2⟩ := Words.rows_eq b ⟨r.val / 64, by omega⟩ ⟨k.val / 64, by omega⟩
  simp only at e1 e2
  rw [e1, e2, hB]
  have q1 : (256 * b.val + r.val) / 64 = 4 * b.val + r.val / 64 := by omega
  have q2 : (256 * b.val + r.val) % 64 = r.val % 64 := by omega
  have q3 : (64 * Words.firstRow b.val + k.val) / 64 = Words.firstRow b.val + k.val / 64 := by omega
  have q4 : (64 * Words.firstRow b.val + k.val) % 64 = k.val % 64 := by omega
  unfold pairBias Words.bias RefValue.rowW RefValue.colW
  rw [q1, q2, q3, q4]
  unfold Scalar.select
  by_cases hm : IntOp.andi (Words.inRow (BitVec.ofNat 32 (4 * b.val + r.val / 64)) (BitVec.ofNat 32 (Words.firstRow b.val + k.val / 64)))
      (Words.inCol (BitVec.ofNat 32 (r.val % 64)) (BitVec.ofNat 32 (k.val % 64))) = 1
  · rw [if_pos hm, if_pos hm, if_neg (EReal.coe_ne_bot _)]
  · rw [if_neg hm, if_neg hm, if_pos rfl]

/-- The query block of a tile. -/
abbrev tileBlock (j : Fin 16) : Fin 32 := ⟨16 * (half t).val + j.val, by omega⟩

theorem pat_first : ∀ (i : Fin 2) (j : Fin 16), j.val = 0 →
    (⟨if i.val = 0 then 0 else 1, by split <;> decide⟩ : Fin 3) = Words.pat ⟨16 * i.val + j.val, by omega⟩ := by decide
theorem pat_last : ∀ (i : Fin 2) (j : Fin 16), j.val = 15 →
    (⟨if i.val = 0 then 1 else 2, by split <;> decide⟩ : Fin 3) = Words.pat ⟨16 * i.val + j.val, by omega⟩ := by decide
theorem pat_middle : ∀ (i : Fin 2) (j : Fin 16), j.val ≠ 0 → j.val ≠ 15 →
    (1 : Fin 3) = Words.pat ⟨16 * i.val + j.val, by omega⟩ := by decide

/-- A tile's bias block is the table's at the pattern of the tile's query block. -/
theorem pattern (j : Fin 16) (h : Fin 2) (r : Fin 256) (k : Fin 704) :
    (Block.patOf j (iblk m c 6 t) (iblk m c 7 t) (iblk m c 8 t) (ix4 0 h r k) : EReal)
      = V m c main_v107 (ix4 (Words.pat (tileBlock t j)) ⟨2 * (pair t).val + h.val, by omega⟩ r k) := by
  have at_pat : ∀ p : Fin 3, p = Words.pat (tileBlock t j) →
      (V m c main_v107 (ix4 p ⟨2 * (pair t).val + h.val, by omega⟩ r k) : EReal)
        = V m c main_v107 (ix4 (Words.pat (tileBlock t j)) ⟨2 * (pair t).val + h.val, by omega⟩ r k) := fun p hp => by rw [hp]
  unfold Block.patOf
  by_cases h0 : j.val = 0
  · rw [if_pos h0]
    exact (block6 m c t h r k).trans (at_pat _ (pat_first (half t) j h0))
  · rw [if_neg h0]
    by_cases h15 : j.val = 15
    · rw [if_pos h15]
      exact (block8 m c t h r k).trans (at_pat _ (pat_last (half t) j h15))
    · rw [if_neg h15]
      exact (block7 m c t h r k).trans (at_pat _ (pat_middle (half t) j h0 h15))

/-- A head's half of a bias block. -/
theorem half_zero (w : Vec Ideal S1x2x256x704 .f32) (r : Fin 256) (k : Fin 704) :
    View.ld w (Rect.unit ![0, 0, 0, 0] ![1, 1, 256, 704] inb_S1x2x256x704_S1x1x256x704_0_0_0_0) (ix4 0 0 r k) = w (ix4 0 0 r k) := by
  refine congrArg w (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)
@[inherit_doc half_zero]
theorem half_one (w : Vec Ideal S1x2x256x704 .f32) (r : Fin 256) (k : Fin 704) :
    View.ld w (Rect.unit ![0, 1, 0, 0] ![1, 1, 256, 704] inb_S1x2x256x704_S1x1x256x704_0_1_0_0) (ix4 0 0 r k) = w (ix4 0 1 r k) := by
  refine congrArg w (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)

section
variable (Q K : S4x8192x16x64.Idx → ℝ) (KC : S4x256x16x64.Idx → ℝ) (B : S16x15x31.Idx → ℝ)
  (hQ : ∀ i, arg0 m c i = (Q i : EReal)) (hK : ∀ i, arg1 m c i = (K i : EReal)) (hKC : ∀ i, arg3 m c i = (KC i : EReal))
  (hB : ∀ i, arg5 m c i = (B i : EReal)) (σ : ℝ) (hσ : (V m c main_v108 (ix2 0 0) : EReal) = (σ : EReal))

include hQ hK hKC hB hσ in
/-- An element of a tile: the softmax attention of its token, over all keys. -/
theorem tile_eq (j : Fin 16) (r : Fin 256) (h : Fin 2) (d : Fin 64) (M : ℝ) :
    (Block.tileAt (grid0.coords t) (iblk m c 0 t) (iblk m c 1 t) (iblk m c 2 t) (iblk m c 3 t) (iblk m c 4 t) (iblk m c 5 t)
        (iblk m c 6 t) (iblk m c 7 t) (iblk m c 8 t) j (ix2 r (lane h d)) : EReal)
      = softmaxOut M
          (RefValue.keyScore Q K B (batch t) ⟨2 * (pair t).val + h.val, by omega⟩ ⟨256 * (tileBlock t j).val + r.val, by omega⟩)
          (RefValue.contextScore Q KC (batch t) ⟨2 * (pair t).val + h.val, by omega⟩ ⟨256 * (tileBlock t j).val + r.val, by omega⟩)
          (fun k => arg2 m c (ix4 (batch t) k ⟨2 * (pair t).val + h.val, by omega⟩ d))
          (fun k => arg4 m c (ix4 (batch t) k ⟨2 * (pair t).val + h.val, by omega⟩ d)) := by
  have hs : 64 * Words.firstRow (tileBlock t j).val + 704 ≤ 8192 := by
    have : Words.firstRow (tileBlock t j).val ≤ 117 := min_le_right _ _
    omega
  have eq : ∀ e : Fin 64, (View.ld (iblk m c 1 t) (Block.tileRect j) (ix2 r (lane h e)) : EReal)
      = (Q (ix4 (batch t) ⟨256 * (tileBlock t j).val + r.val, by omega⟩ ⟨2 * (pair t).val + h.val, by omega⟩ e) : EReal)
        * (((Real.log 2)⁻¹ : ℝ) : EReal) := by
    intro e
    rw [← hQ]
    have hx : (View.ld (iblk m c 1 t) (Block.tileRect j) (ix2 r (lane h e)) : EReal)
        = iblk m c 1 t (ix2 ⟨256 * j.val + r.val, by omega⟩ (lane h e)) := by
      show iblk m c 1 t ((Block.tileRect j).emb (ix2 r (lane h e))) = _
      congr 1
      funext a
      fin_cases a
      · exact Fin.ext (show 256 * j.val + 1 * r.val = 256 * j.val + r.val by omega)
      · exact Fin.ext (show 0 + 1 * (lane h e).val = (lane h e).val by omega)
    rw [hx, block1]
    congr 3
    exact Fin.ext (show 4096 * (half t).val + (256 * j.val + r.val) = 256 * (16 * (half t).val + j.val) + r.val by omega)
  have win : ∀ (w : Vec Ideal S8192x128 .bf16) (k : Fin 704) (e : Fin 64),
      (View.ld w (Block.winRect (grid0.coords t) j) (ix2 k (lane h e)) : EReal)
        = w (ix2 ⟨64 * Words.firstRow (tileBlock t j).val + k.val, by omega⟩ (lane h e)) := by
    intro w k e
    show w ((Block.winRect (grid0.coords t) j).emb (ix2 k (lane h e))) = _
    congr 1
    have hst := start_eq t j
    funext a
    fin_cases a
    · refine Fin.ext ?_
      show k0_off1 (grid0.coords t) (BitVec.ofNat 32 j.val) 0 + 1 * k.val = _
      rw [hst]
      show 64 * Words.firstRow (16 * (half t).val + j.val) + 1 * k.val = 64 * Words.firstRow (16 * (half t).val + j.val) + k.val
      omega
    · refine Fin.ext ?_
      show k0_off1 (grid0.coords t) (BitVec.ofNat 32 j.val) 1 + 1 * (lane h e).val = (lane h e).val
      rw [hst]
      show 0 + 1 * (lane h e).val = (lane h e).val
      omega
  have main := fun sh q kw vw kc vc b => Head.head M σ (64 * Words.firstRow (tileBlock t j).val) hs
    (fun e => Q (ix4 (batch t) ⟨256 * (tileBlock t j).val + r.val, by omega⟩ ⟨2 * (pair t).val + h.val, by omega⟩ e))
    (fun k e => K (ix4 (batch t) k ⟨2 * (pair t).val + h.val, by omega⟩ e))
    (fun k e => KC (ix4 (batch t) k ⟨2 * (pair t).val + h.val, by omega⟩ e))
    (fun k => pairBias B ⟨2 * (pair t).val + h.val, by omega⟩ (256 * (tileBlock t j).val + r.val) k.val)
    (fun k => arg2 m c (ix4 (batch t) k ⟨2 * (pair t).val + h.val, by omega⟩ d))
    (fun k => arg4 m c (ix4 (batch t) k ⟨2 * (pair t).val + h.val, by omega⟩ d))
    (fun k => RefValue.bias_ne_top B _ _ _ _ _) (fun k hk => outside B _ (tileBlock t j) r k hk) sh q kw vw kc vc b d
  have h0 : (View.ld (iblk m c 0 t) (Rect.unit ![0, 0] ![1, 1] inb_S1x128_S1x1_0_0) (ix2 0 0) : EReal) = (σ : EReal) := by
    rw [← hσ, ← block0 m c t]
    show iblk m c 0 t _ = _
    congr 1
    funext a
    fin_cases a <;> rfl
  have hb : ∀ k : Fin 704, (Block.patOf j (iblk m c 6 t) (iblk m c 7 t) (iblk m c 8 t) (ix4 0 h r k) : EReal) = _ :=
    fun k => (pattern m c t j h r k).trans (table_bias m c B hB σ hσ ⟨2 * (pair t).val + h.val, by omega⟩ (tileBlock t j) r k)
  unfold Block.tileAt
  obtain rfl | rfl : h = 0 ∨ h = 1 := by omega
  · rw [tile_head0]
    refine main _ _ _ _ _ _ _ h0 eq (fun k e => (win _ k e).trans ((block2 m c t _ _ e).trans (hK _)))
      (fun k => (win _ k d).trans (block3 m c t _ _ d)) (fun k e => (block4 m c t k _ e).trans (hKC _))
      (fun k => block5 m c t k _ d) (fun k => (half_zero _ r k).trans (hb k))
  · rw [tile_head1]
    refine main _ _ _ _ _ _ _ h0 eq (fun k e => (win _ k e).trans ((block2 m c t _ _ e).trans (hK _)))
      (fun k => (win _ k d).trans (block3 m c t _ _ d)) (fun k e => (block4 m c t k _ e).trans (hKC _))
      (fun k => block5 m c t k _ d) (fun k => (half_one _ r k).trans (hb k))

include hQ hK hKC hB hσ in
/-- The array after the run is the reference's. -/
theorem result_eq : (dats m 0 c).arrAt 9 cfg0.N
    = Cert.ReferenceIdeal.Read.val_main_v99 (F := Ideal) (arg0 m c) (arg1 m c) (arg2 m c) (arg3 m c) (arg4 m c) (arg5 m c) := by
  have e0 : arg0 m c = RefValue.up4 Q := funext hQ
  have e1 : arg1 m c = RefValue.up4 K := funext hK
  have e3 : arg3 m c = RefValue.upC KC := funext hKC
  have e5 : arg5 m c = RefValue.upB B := funext hB
  refine (dats m 0 c).arrAt_eq_of_covers 9 _ (by decide +kernel) fun t hf y => ?_
  blk_simp
  rw [after0_9]
  unfold outsAt0
  rw [Block.out_eq_whole]
  have hN : t.val < 64 := t.isLt
  have y0 : (y 0).val < 4096 := (y 0).isLt
  have y1 : (y 1).val < 128 := (y 1).isLt
  have hemb : (win0_9.blk t).view.emb y
      = ix2 (⟨(t.val / 16 * 2 + t.val % 2) * 4096 + (y 0).val, by omega⟩ : Fin 32768)
          (⟨128 * (t.val / 2 % 8) + (y 1).val, by omega⟩ : Fin 1024) := by
    blk_ext [index9]
  rw [hemb]
  obtain ⟨M, hM⟩ := RefValue.value Q K KC B (arg2 m c) (arg4 m c)
    ⟨(t.val / 16 * 2 + t.val % 2) * 4096 + (y 0).val, by omega⟩ ⟨128 * (t.val / 2 % 8) + (y 1).val, by omega⟩
  rw [e0, e1, e3, e5]
  refine Eq.trans ?_ hM.symm
  have key := tile_eq m c t Q K KC B hQ hK hKC hB σ hσ ⟨(y 0).val / 256, by omega⟩ ⟨(y 0).val % 256, by omega⟩
    ⟨(y 1).val / 64, by omega⟩ ⟨(y 1).val % 64, by omega⟩ M
  have hl : lane ⟨(y 1).val / 64, by omega⟩ ⟨(y 1).val % 64, by omega⟩ = y 1 := Fin.ext (by
    show 64 * ((y 1).val / 64) + (y 1).val % 64 = (y 1).val
    omega)
  rw [hl] at key
  refine Eq.trans key ?_
  have f1 : (⟨((t.val / 16 * 2 + t.val % 2) * 4096 + (y 0).val) / 8192, by omega⟩ : Fin 4) = batch t := Fin.ext (by
    dsimp only; omega)
  have f2 : (⟨((t.val / 16 * 2 + t.val % 2) * 4096 + (y 0).val) % 8192, by omega⟩ : Fin 8192)
      = ⟨256 * (tileBlock t ⟨(y 0).val / 256, by omega⟩).val + (y 0).val % 256, by dsimp only; omega⟩ := Fin.ext (by
    dsimp only; omega)
  have f3 : (⟨(128 * (t.val / 2 % 8) + (y 1).val) / 64, by omega⟩ : Fin 16)
      = ⟨2 * (pair t).val + (y 1).val / 64, by dsimp only; omega⟩ := Fin.ext (by
    dsimp only; omega)
  have f4 : (⟨(128 * (t.val / 2 % 8) + (y 1).val) % 64, by omega⟩ : Fin 64) = ⟨(y 1).val % 64, by omega⟩ := Fin.ext (by
    dsimp only; omega)
  simp only [f1, f2, f3, f4]

end

end Cert.Final
-- ==== Proof.Finite.lean ====
/- The precondition: every entry of the queries, the keys, the bias table and the gains is a real number. -/
module

public import proofs.«01_k».proof.Defs
public import Idealize.ShloMosaic.Lib.ReduceAll
public import Idealize.ShloMosaic.Lib.Pointwise

@[expose] public section

set_option maxRecDepth 16384

noncomputable section

namespace Cert.Finite
open Cert.Pre_finite Idealize.ShloMosaic Idealize.SL.Sem

instance facts : Cert.Pre_finite.Facts where
  bcast_S_S4x8192x16x64 := by decide
  reducesTo_S4x8192x16x64_S_d0_1_2_3 := by decide
  h_S_ := by decide
  bcast_S_S4x256x16x64 := by decide
  reducesTo_S4x256x16x64_S_d0_1_2_3 := by decide
  bcast_S_S16x15x31 := by decide
  reducesTo_S16x15x31_S_d0_1_2 := by decide
  bcast_S_S64 := by decide
  reducesTo_S64_S_d0 := by decide

/-- A value whose magnitude compares below plus infinity is a real number. -/
theorem real_of_lt (x : EReal) (h : Ideal.cmp .olt (max x (-x)) (Ideal.ofBits FTy.f32 0x7F800000#32) = 1#1) :
    ∃ r : ℝ, x = (r : EReal) := by
  have ht : Ideal.ofBits FTy.f32 0x7F800000#32 = ⊤ := by simp [Ideal.ofBits, Ideal.ieee, -EReal.coe_mul]
  rw [ht] at h
  have hlt : max x (-x) < ⊤ := by
    by_contra hn
    simp [Ideal.cmp, hn] at h
  induction x with
  | bot => simp at hlt
  | top => simp at hlt
  | coe r => exact ⟨r, rfl⟩

instance : Subsingleton S_.Idx := ⟨fun a b => funext fun i => i.elim0⟩

variable (a0 a1 : S4x8192x16x64.Idx → EReal) (a2 : S4x8192x16x64.Idx → EReal) (a3 a4 : S4x256x16x64.Idx → EReal)
  (a5 : S16x15x31.Idx → EReal) (a6 a7 : S64.Idx → EReal)

theorem reals (h : Cert.Pre_finite.fn (F := Ideal) a0 a1 a2 a3 a4 a5 a6 a7 = fun _ => 1#1) :
    (∃ Q : S4x8192x16x64.Idx → ℝ, a0 = fun i => (Q i : EReal)) ∧ (∃ K : S4x8192x16x64.Idx → ℝ, a1 = fun i => (K i : EReal))
      ∧ (∃ KC : S4x256x16x64.Idx → ℝ, a3 = fun i => (KC i : EReal)) ∧ (∃ B : S16x15x31.Idx → ℝ, a5 = fun i => (B i : EReal))
      ∧ (∃ G : S64.Idx → ℝ, a6 = fun i => (G i : EReal)) ∧ (∃ G : S64.Idx → ℝ, a7 = fun i => (G i : EReal)) := by
  have h0 := congrFun h ix0
  obtain ⟨h1, h7⟩ := IntOp.andi_eq_one.1 h0
  obtain ⟨h2, h6⟩ := IntOp.andi_eq_one.1 h1
  obtain ⟨h3, h5⟩ := IntOp.andi_eq_one.1 h2
  obtain ⟨h4, hk⟩ := IntOp.andi_eq_one.1 h3
  obtain ⟨h8, h9⟩ := IntOp.andi_eq_one.1 h4
  have r0 := Host.reduce_andi_all _ _ _ _ _ h8
  have r1 := Host.reduce_andi_all _ _ _ _ _ h9
  have r3 := Host.reduce_andi_all _ _ _ _ _ hk
  have r5 := Host.reduce_andi_all _ _ _ _ _ h5
  have r6 := Host.reduce_andi_all _ _ _ _ _ h6
  have r7 := Host.reduce_andi_all _ _ _ _ _ h7
  refine ⟨?_, ?_, ?_, ?_, ?_, ?_⟩
  · choose Q hQ using fun i => real_of_lt (a0 i) (r0 i)
    exact ⟨Q, funext hQ⟩
  · choose Q hQ using fun i => real_of_lt (a1 i) (r1 i)
    exact ⟨Q, funext hQ⟩
  · choose Q hQ using fun i => real_of_lt (a3 i) (r3 i)
    exact ⟨Q, funext hQ⟩
  · choose Q hQ using fun i => real_of_lt (a5 i) (r5 i)
    exact ⟨Q, funext hQ⟩
  · choose Q hQ using fun i => real_of_lt (a6 i) (r6 i)
    exact ⟨Q, funext hQ⟩
  · choose Q hQ using fun i => real_of_lt (a7 i) (r7 i)
    exact ⟨Q, funext hQ⟩

end Cert.Finite
-- ==== Proof.Attention.lean ====
/- The claims of the neighbourhood attention: its runs, and its value. -/
module

public import proofs.«01_k».proof.Defs
public import proofs.«01_k».proof.Proof.Gen.Kernel.Frame
public import proofs.«01_k».proof.Proof.Gen.ReferenceIdeal.Run
public import proofs.«01_k».proof.Proof.Final
public import proofs.«01_k».proof.Proof.Finite
public import Idealize.ShloMosaic.Lib.Quiescent

@[expose] public section

set_option maxRecDepth 16384

noncomputable section

namespace Cert.Attention
open Idealize.ShloMosaic Idealize.ShloMosaic.TcCoe Idealize.SL.Sem
open Cert.HostPrep Cert.Shift

theorem frame_kernel : Cert.quiescent_Kernel := fun m ρ _ => Cert.Kernel.Gen.frame m ρ

theorem frame_ideal : Cert.quiescent_KernelIdeal := fun m ρ _ => Cert.KernelIdeal.Gen.frame m ρ

/-- The reference's run, read at its arguments; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's array after the run is the reference's function of the arguments, when the precondition holds. -/
theorem result (m : (ℓ : Loc Cert.KernelIdeal.nD Cert.KernelIdeal.τ Cert.KernelIdeal.sig) → Buf (Elt Ideal) ℓ)
    (hpre : Cert.Pre_KernelIdeal_finite m) (c : Dev Cert.KernelIdeal.nD) :
    (Cert.KernelIdeal.Gen.dats m 0 c).arrAt 9 Cert.KernelIdeal.cfg0.N
      = Cert.ReferenceIdeal.Read.val_main_v99 (F := Ideal) (arg0 m c) (arg1 m c) (arg2 m c) (arg3 m c) (arg4 m c) (arg5 m c) := by
  obtain ⟨⟨Q, hQ⟩, ⟨K, hK⟩, ⟨KC, hKC⟩, ⟨B, hB⟩, ⟨G, hG⟩, ⟨G', hG'⟩⟩ := Finite.reals (arg0 m c) (arg1 m c) (arg2 m c) (arg3 m c)
    (arg4 m c) (arg5 m c) (arg6 m c) (arg7 m c) (hpre c)
  obtain ⟨σ, hσ⟩ := shift_real m c (fun i => ⟨B i, congrFun hB i⟩) (fun i => ⟨G i, congrFun hG i⟩) (fun i => ⟨G' i, congrFun hG' i⟩)
  exact Final.result_eq m c Q K KC B (congrFun hQ) (congrFun hK) (congrFun hKC) (congrFun hB) σ hσ

theorem value : Cert.algebraic_KernelIdeal_ReferenceIdeal_pre_finite := fun m ρ m' ρ' hpre hag =>
  ⟨fun c => (Cert.KernelIdeal.Gen.dats m 0 c).arrAt 9 Cert.KernelIdeal.cfg0.N,
    Cert.KernelIdeal.Value.run_blocks m ρ,
    (θ_run Cert.ReferenceIdeal.defs _ _).mono (fun r h c => ⟨by
        obtain ⟨h0, h1, h2, h3, h4, h5, _, _⟩ := hag c
        refine (h c).1.trans ((Cert.ReferenceIdeal.Read.val_main_v99_eq m' c).trans ?_)
        rw [h0, h1, h2, h3, h4, h5]
        exact (result m hpre c).symm, (h c).2⟩)
      (Cert.ReferenceIdeal.Value.run (F := Ideal) m' ρ')⟩

end Cert.Attention
-- ==== Proof.ChannelRow.lean ====
/- One token of the channel call, as a function of its row: the head norms, the gated merge of the mixers, the residual,
   and the feed-forward network. -/
module

public import Idealize.ShloMosaic.PureOps.Ideal

@[expose] public section

noncomputable section

namespace Cert.ChannelRow
open Idealize.ShloMosaic

/-- The epsilon of the norms. -/
abbrev eps : EReal := Ideal.ofBits FTy.f32 897988541#32

/-- One over the root of the mean of the squares of a head's 128 lanes, from the lane `s`. -/
def headScale (h : Fin 1024 → EReal) (s : Nat) (hs : s + 128 ≤ 1024) : EReal :=
  Ideal.rsqrt (Ideal.div (∑ x : Fin 128, h ⟨s + x.val, by omega⟩ * h ⟨s + x.val, by omega⟩) (Ideal.ofBits FTy.f32 1124073472#32) + eps)

/-- A row normed head by head. -/
def headNorm (h : Fin 1024 → EReal) (i : Fin 1024) : EReal := h i * headScale h (128 * (i.val / 128)) (by omega)

/-- A lane of the head that starts at `s`, with the head's squares read by `f`. -/
theorem headNorm_at (h : Fin 1024 → EReal) (i j : Fin 1024) (f : Fin 128 → EReal) (s : Nat) (hs : s + 128 ≤ 1024)
    (hi : s = 128 * (i.val / 128)) (hj : j = i) (hf : ∀ x, f x = h ⟨s + x.val, by omega⟩) :
    h j * Ideal.rsqrt (Ideal.div (∑ x : Fin 128, f x * f x) (Ideal.ofBits FTy.f32 1124073472#32) + eps) = headNorm h i := by
  subst hi hj
  unfold headNorm headScale
  simp only [hf]

/-- The mLSTM's output: its normed row times the gain and the output gate. -/
def gated (h gn oa : Fin 1024 → EReal) (i : Fin 1024) : EReal := headNorm h i * gn i * Ideal.logistic (oa i)

/-- The two mixers' outputs, each through its weight and its merge gate. -/
def merged (h gn oa na : Fin 1024 → EReal) (mg : Fin 2048 → EReal) (wa wb : Fin 1024 → Fin 1024 → EReal) (i : Fin 1024) : EReal :=
  Ideal.logistic (mg ⟨i.val, by omega⟩) * ∑ k, gated h gn oa k * wa k i
    + Ideal.logistic (mg ⟨1024 + i.val, by omega⟩) * ∑ k, na k * wb k i

/-- The row after the mixers. -/
def mixed (h gn oa na : Fin 1024 → EReal) (mg : Fin 2048 → EReal) (x g1 : Fin 1024 → EReal)
    (wa wb wo : Fin 1024 → Fin 1024 → EReal) (i : Fin 1024) : EReal :=
  x i + g1 i * ∑ k, merged h gn oa na mg wa wb k * wo k i

/-- A row normed, scaled by the gain and modulated. -/
def modulated (y n2 sc sh : Fin 1024 → EReal) (i : Fin 1024) : EReal :=
  y i * Ideal.rsqrt (Ideal.div (∑ x, y x * y x) (Ideal.ofBits FTy.f32 1149239296#32) + eps) * n2 i * (1 + sc i) + sh i

/-- The feed-forward network. -/
def ffn (z : Fin 1024 → EReal) (wg wu : Fin 1024 → Fin 2816 → EReal) (wd : Fin 2816 → Fin 1024 → EReal) (i : Fin 1024) : EReal :=
  ∑ k, (∑ j, z j * wg j k) * Ideal.logistic (∑ j, z j * wg j k) * (∑ j, z j * wu j k) * wd k i

/-- The row after the feed-forward network. -/
def finish (y n2 sc sh g2 : Fin 1024 → EReal) (wg wu : Fin 1024 → Fin 2816 → EReal) (wd : Fin 2816 → Fin 1024 → EReal)
    (i : Fin 1024) : EReal :=
  y i + g2 i * ffn (modulated y n2 sc sh) wg wu wd i

end Cert.ChannelRow
-- ==== Proof.ChannelTile.lean ====
/- A block of the channel kernel's result, row by row. -/
module

public import proofs.«01_k».proof.Proof.ChannelRow
public import proofs.«01_k».proof.Proof.Gen.ChannelIdeal.Frame
public import Idealize.ShloMosaic.Lib.Pointwise
public import Idealize.ShloMosaic.Lib.Pipeline.Value
public import Idealize.ShloMosaic.Lib.Pipeline.ValueKit.Acc

@[expose] public section

set_option maxRecDepth 16384

noncomputable section

namespace Cert.ChannelTile
open Cert.ChannelIdeal Cert.ChannelIdeal.Gen Idealize.ShloMosaic Idealize.ShloMosaic.TcCoe Idealize.SL.Sem
open Cert.ChannelRow

/-- The row `r` of a matrix. -/
abbrev rowOf {a b : Nat} (x : (⟨2, ![a, b]⟩ : Shape).Idx → EReal) (r : Fin a) : Fin b → EReal := fun k => x (ix2 r k)

/-- The heads' norms, laid side by side. -/
theorem heads (v0 : Vec Ideal S512x1024 .f32) (r : Fin 512) (i : Fin 1024) :
    k0_pay8 (k0_pay2 v0) (k0_pay3 v0) (k0_pay4 v0) (k0_pay5 v0) (k0_pay6 v0) (k0_pay7 v0) (ix2 r i) = headNorm (rowOf v0 r) i := by
  pointwise [k0_pay8, k0_pay2, k0_pay3, k0_pay4, k0_pay5, k0_pay6, k0_pay7]
  split_ifs
  all_goals
    refine headNorm_at (rowOf v0 r) i _ _ (128 * (i.val / 128)) (by omega) rfl ?_ fun x => congrArg (rowOf v0 r) (Fin.ext ?_)
    · exact Fin.ext (by first | rfl | (dsimp only; omega))
    · first | rfl | (dsimp only; omega)

/-- The row after the mixers. -/
theorem mixed_eq (v90 : FVec Ideal S512x1024 .f32) (v91 : Vec Ideal S1x1024 .f32) (v95 : Vec Ideal S512x1024 .bf16)
    (v101 : Vec Ideal S512x2048 .bf16) (v106 : Vec Ideal S1024x1024 .bf16) (v111 : Vec Ideal S512x1024 .bf16)
    (v113 : Vec Ideal S1024x1024 .bf16) (v119 : Vec Ideal S1024x1024 .bf16) (v122 : Vec Ideal S1x512x1024 .f32)
    (v124 : Vec Ideal S1x1x1024 .f32) (h : Fin 1024 → EReal) (r : Fin 512) (hv : ∀ k, v90 (ix2 r k) = headNorm h k) (i : Fin 1024) :
    k0_pay9 v90 v91 v95 v101 v106 v111 v113 v119 v122 v124 (ix2 r i)
      = mixed h (rowOf v91 0) (rowOf v95 r) (rowOf v111 r) (rowOf v101 r) (fun k => v122 (ix3 0 r k)) (fun k => v124 (ix3 0 0 k))
          (rowOf v106) (rowOf v113) (rowOf v119) i := by
  pointwise [k0_pay9]
  simp only [hv]
  rfl

/-- The feed-forward network of a row. -/
theorem ffn_eq (v128 : FVec Ideal S512x1024 .f32) (v129 : Vec Ideal S1x1024 .f32) (v131 v133 : Vec Ideal S1x1x1024 .f32)
    (v154 v157 : Vec Ideal S1024x2816 .bf16) (v164 : Vec Ideal S2816x1024 .bf16) (r : Fin 512) (i : Fin 1024) :
    k0_pay10 v128 v129 v131 v133 v154 v157 v164 (ix2 r i)
      = ffn (modulated (rowOf v128 r) (rowOf v129 0) (fun k => v131 (ix3 0 0 k)) (fun k => v133 (ix3 0 0 k)))
          (rowOf v154) (rowOf v157) (rowOf v164) i := by
  pointwise [k0_pay10]
  rfl

/-- The residual. -/
theorem finish_eq (v128 v166 : FVec Ideal S512x1024 .f32) (v167 : Vec Ideal S1x1x1024 .f32) (r : Fin 512) (i : Fin 1024) :
    k0_pay1 v128 v166 v167 (ix3 0 r i) = (v128 (ix2 r i) + v167 (ix3 0 0 i) * v166 (ix2 r i) : EReal) := by
  pointwise [k0_pay1]

/-- A row of the modulation, loaded by itself. -/
theorem mod_row (x : Vec Ideal S1x6x1024 .f32) (k : Fin 1024) :
    View.ld x r0_5 (ix3 0 0 k) = x (ix3 0 2 k) ∧ View.ld x r0_6 (ix3 0 0 k) = x (ix3 0 4 k)
      ∧ View.ld x r0_7 (ix3 0 0 k) = x (ix3 0 3 k) ∧ View.ld x r0_10 (ix3 0 0 k) = x (ix3 0 5 k) := by
  refine ⟨?_, ?_, ?_, ?_⟩
  all_goals
    refine congrArg x (funext fun a => Fin.ext ?_)
    match a with
    | ⟨0, _⟩ => rfl
    | ⟨1, _⟩ => rfl
    | ⟨2, _⟩ => exact (Nat.zero_add _).trans (Nat.one_mul _)

/-- The result's block, from the input blocks. -/
theorem out_eq (x0 : Vec Ideal S512x1024 .f32) (x1 x2 : Vec Ideal S512x1024 .bf16) (x3 : Vec Ideal S512x2048 .bf16)
    (x4 : Vec Ideal S1x512x1024 .f32) (x5 : Vec Ideal S1x6x1024 .f32) (x6 x7 : Vec Ideal S1x1024 .f32)
    (x8 x9 x10 : Vec Ideal S1024x1024 .bf16) (x11 x12 : Vec Ideal S1024x2816 .bf16) (x13 : Vec Ideal S2816x1024 .bf16)
    (r : Fin 512) (i : Fin 1024) :
    out0_14 x0 x1 x2 x3 x4 x5 x6 x7 x8 x9 x10 x11 x12 x13 (ix3 0 r i)
      = finish (mixed (rowOf x0 r) (rowOf x6 0) (rowOf x1 r) (rowOf x2 r) (rowOf x3 r) (fun k => x4 (ix3 0 r k))
            (fun k => x5 (ix3 0 2 k)) (rowOf x8) (rowOf x9) (rowOf x10))
          (rowOf x7 0) (fun k => x5 (ix3 0 4 k)) (fun k => x5 (ix3 0 3 k)) (fun k => x5 (ix3 0 5 k))
          (rowOf x11) (rowOf x12) (rowOf x13) i := by
  have z3 : (![0, 0, 0] : Fin 3 → Nat) = fun _ => 0 := by decide
  have e : ∀ k, k0_pay11 x0 x1 x2 x3 x4 x5 x6 x7 x8 x9 x10 x11 x12 x13 (ix2 r k)
      = mixed (rowOf x0 r) (rowOf x6 0) (rowOf x1 r) (rowOf x2 r) (rowOf x3 r) (fun k => x4 (ix3 0 r k))
            (fun k => x5 (ix3 0 2 k)) (rowOf x8) (rowOf x9) (rowOf x10) k := by
    intro k
    unfold k0_pay11
    rw [mixed_eq _ _ _ _ _ _ _ _ _ _ (rowOf (View.ld x0 r0_0) r) r (heads _ r) k]
    unfold r0_0 r0_1 r0_2 r0_3 r0_4
    rw [show View.ld x4 _ = x4 from View.ld_unit_zero z3 _ x4]
    simp (disch := decide) only [View.ld_unit_lit', (mod_row x5 _).1]
  unfold out0_14
  generalize k0_pay11 x0 x1 x2 x3 x4 x5 x6 x7 x8 x9 x10 x11 x12 x13 = y at e ⊢
  unfold r0_1 r0_4 r0_8 r0_9
  rw [View.canon_unit_zero z3, finish_eq, ffn_eq]
  simp (disch := decide) only [View.ld_unit_lit', (mod_row x5 _).2.1, (mod_row x5 _).2.2.1, (mod_row x5 _).2.2.2]
  rw [show rowOf y r = _ from funext e, e]
  rfl

end Cert.ChannelTile
-- ==== Proof.ChannelReads.lean ====
/- What the host prepares for the channel kernel, and the blocks of a grid point: entries of the arguments. -/
module

public import proofs.«01_k».proof.Proof.ChannelTile
public import proofs.«01_k».proof.Proof.Gen.ChannelIdeal.Value
public import Idealize.ShloMosaic.Lib.Pipeline.ValueKit.Point
public import Idealize.ShloMosaic.Lib.StableHlo.ReadAt

@[expose] public section

set_option maxRecDepth 16384

noncomputable section

namespace Cert.ChannelReads
open Cert.ChannelIdeal Cert.ChannelIdeal.Gen Idealize.ShloMosaic Idealize.ShloMosaic.TcCoe Idealize.SL.Sem
open Cert.ChannelTile

variable (m : (ℓ : Loc nD τ sig) → Buf (Elt Ideal) ℓ) (c : Dev nD)

/-- An argument's array, by its number. -/
abbrev arg0 : S4x8x8192x128.Idx → EReal := m (c, Proc.tc.devRef main_arg0)
@[inherit_doc arg0]
abbrev arg1 : S4x8192x1024.Idx → EReal := m (c, Proc.tc.devRef main_arg1)
@[inherit_doc arg0]
abbrev arg2 : S4x8192x1024.Idx → EReal := m (c, Proc.tc.devRef main_arg2)
@[inherit_doc arg0]
abbrev arg3 : S4x8192x2048.Idx → EReal := m (c, Proc.tc.devRef main_arg3)
@[inherit_doc arg0]
abbrev arg4 : S4x8192x1024.Idx → EReal := m (c, Proc.tc.devRef main_arg4)
@[inherit_doc arg0]
abbrev arg5 : S4x6144.Idx → EReal := m (c, Proc.tc.devRef main_arg5)
@[inherit_doc arg0]
abbrev arg6 : S1024.Idx → EReal := m (c, Proc.tc.devRef main_arg6)
@[inherit_doc arg0]
abbrev arg7 : S1024.Idx → EReal := m (c, Proc.tc.devRef main_arg7)
@[inherit_doc arg0]
abbrev arg8 : S1024x1024.Idx → EReal := m (c, Proc.tc.devRef main_arg8)
@[inherit_doc arg0]
abbrev arg9 : S1024x1024.Idx → EReal := m (c, Proc.tc.devRef main_arg9)
@[inherit_doc arg0]
abbrev arg10 : S1024x1024.Idx → EReal := m (c, Proc.tc.devRef main_arg10)
@[inherit_doc arg0]
abbrev arg11 : S1024x2816.Idx → EReal := m (c, Proc.tc.devRef main_arg11)
@[inherit_doc arg0]
abbrev arg12 : S1024x2816.Idx → EReal := m (c, Proc.tc.devRef main_arg12)
@[inherit_doc arg0]
abbrev arg13 : S2816x1024.Idx → EReal := m (c, Proc.tc.devRef main_arg13)

theorem head_read (R : Fin 32768) (k : Fin 1024) : (V m c main_v1 (ix2 R k) : EReal)
    = arg0 m c (ix4 ⟨R.val / 8192, by omega⟩ ⟨k.val / 128, by omega⟩ ⟨R.val % 8192, by omega⟩ ⟨k.val % 128, by omega⟩) := by
  unfold V
  after_reads_at

theorem gate_read (R : Fin 32768) (k : Fin 1024) : (V m c main_v7 (ix2 R ⟨2048 + k.val, by omega⟩) : EReal)
    = arg1 m c (ix3 ⟨R.val / 8192, by omega⟩ ⟨R.val % 8192, by omega⟩ k) := by
  unfold V
  after_reads_at
  after_reads_at

theorem merge_read (R : Fin 32768) (k : Fin 2048) : (V m c main_v7 (ix2 R ⟨6144 + k.val, by omega⟩) : EReal)
    = arg3 m c (ix3 ⟨R.val / 8192, by omega⟩ ⟨R.val % 8192, by omega⟩ k) := by
  unfold V
  after_reads_at
  after_reads_at
  have h3 : 6144 + k.val - 2048 - 1024 - 3072 = k.val := by omega
  rw [dif_neg (show ¬ 6144 + k.val < 2048 by omega), dif_neg (show ¬ 6144 + k.val - 2048 < 1024 by omega),
    dif_neg (show ¬ 6144 + k.val - 2048 - 1024 < 3072 by omega)]
  simp only [h3]

theorem natten_read (R : Fin 32768) (k : Fin 1024) : (V m c main_v11 (ix2 R k) : EReal)
    = arg2 m c (ix3 ⟨R.val / 8192, by omega⟩ ⟨R.val % 8192, by omega⟩ k) := by
  unfold V
  after_reads_at

theorem mod_read (b : Fin 4) (j : Fin 6) (k : Fin 1024) : (V m c main_v9 (ix3 ⟨b.val, by omega⟩ j k) : EReal)
    = arg5 m c (ix2 b ⟨1024 * j.val + k.val, by omega⟩) := by
  unfold V
  after_reads_at
  exact congrArg (fun w => arg5 m c (ix2 b w)) (Fin.ext (by dsimp only; omega))

theorem gain_read (k : Fin 1024) : (V m c main_v12 (ix2 0 k) : EReal) = arg6 m c (ix1 k) := by
  unfold V
  after_reads_at

theorem norm_read (k : Fin 1024) : (V m c main_v19 (ix2 0 k) : EReal) = arg7 m c (ix1 k) := by
  unfold V
  after_reads_at

theorem weight_read (i k : Fin 1024) : (V m c main_v13 (ix2 i k) : EReal) = arg8 m c (ix2 i k)
    ∧ (V m c main_v14 (ix2 i k) : EReal) = arg9 m c (ix2 i k) ∧ (V m c main_v15 (ix2 i k) : EReal) = arg10 m c (ix2 i k) := by
  refine ⟨?_, ?_, ?_⟩
  all_goals
    unfold V
    after_reads_at

theorem up_read (i : Fin 1024) (k : Fin 2816) : (V m c main_v16 (ix2 i k) : EReal) = arg11 m c (ix2 i k)
    ∧ (V m c main_v17 (ix2 i k) : EReal) = arg12 m c (ix2 i k) := by
  refine ⟨?_, ?_⟩
  all_goals
    unfold V
    after_reads_at

theorem down_read (i : Fin 2816) (k : Fin 1024) : (V m c main_v18 (ix2 i k) : EReal) = arg13 m c (ix2 i k) := by
  unfold V
  after_reads_at

section
variable (t : Fin cfg0.N)

/-- A point's batch, and the token its block's row `r` is. -/
abbrev batch (t : Fin grid0.N) : Fin 4 := ⟨t.val / 16, by have := t.isLt; have : grid0.N = 64 := (by decide); omega⟩
@[inherit_doc batch]
abbrev token (t : Fin grid0.N) (r : Fin 512) : Fin 8192 := ⟨512 * (t.val % 16) + r.val, by omega⟩
/-- The token's row in the arrays whose batches are stacked. -/
abbrev stacked (t : Fin grid0.N) (r : Fin 512) : Fin 32768 :=
  ⟨512 * t.val + r.val, by have := t.isLt; have : grid0.N = 64 := (by decide); omega⟩

theorem index0 : ∀ t : Fin cfg0.N, win0_0.index t = ![t.val, 0] := (by decide +kernel : ∀ t : Fin grid0.N, _)
theorem index1 : ∀ t : Fin cfg0.N, win0_1.index t = ![t.val, 2] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![t.val / 16, t.val % 16, 0] := (by decide +kernel : ∀ t : Fin grid0.N, _)
theorem index5 : ∀ t : Fin cfg0.N, win0_5.index t = ![t.val / 16, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![t.val / 16, t.val % 16, 0] := (by decide +kernel : ∀ t : Fin grid0.N, _)

/-- A stacked row's batch and token. -/
theorem stacked_split (r : Fin 512) : (⟨(stacked t r).val / 8192, by omega⟩ : Fin 4) = batch t
    ∧ (⟨(stacked t r).val % 8192, by omega⟩ : Fin 8192) = token t r :=
  ⟨Fin.ext (by dsimp only; omega), Fin.ext (by dsimp only; omega)⟩

theorem block0 (r : Fin 512) (k : Fin 1024) : (iblk m c 0 t (ix2 r k) : EReal)
    = arg0 m c (ix4 (batch t) ⟨k.val / 128, by omega⟩ (token t r) ⟨k.val % 128, by omega⟩) := by
  have he : (iblk m c 0 t (ix2 r k) : EReal) = V m c main_v1 (ix2 (stacked t r) k) := by
    blk_simp [iblk]
    congr 1
    blk_ext [index0]
  rw [he, head_read, (stacked_split t r).1, (stacked_split t r).2]

theorem block1 (r : Fin 512) (k : Fin 1024) : (iblk m c 1 t (ix2 r k) : EReal) = arg1 m c (ix3 (batch t) (token t r) k) := by
  have he : (iblk m c 1 t (ix2 r k) : EReal) = V m c main_v7 (ix2 (stacked t r) ⟨2048 + k.val, by omega⟩) := by
    blk_simp [iblk]
    congr 1
    blk_ext [index1]
  rw [he, gate_read, (stacked_split t r).1, (stacked_split t r).2]

theorem block2 (r : Fin 512) (k : Fin 1024) : (iblk m c 2 t (ix2 r k) : EReal) = arg2 m c (ix3 (batch t) (token t r) k) := by
  have he : (iblk m c 2 t (ix2 r k) : EReal) = V m c main_v11 (ix2 (stacked t r) k) := by
    blk_simp [iblk]
    congr 1
    blk_ext [index2]
  rw [he, natten_read, (stacked_split t r).1, (stacked_split t r).2]

theorem block3 (r : Fin 512) (k : Fin 2048) : (iblk m c 3 t (ix2 r k) : EReal) = arg3 m c (ix3 (batch t) (token t r) k) := by
  have he : (iblk m c 3 t (ix2 r k) : EReal) = V m c main_v7 (ix2 (stacked t r) ⟨6144 + k.val, by omega⟩) := by
    blk_simp [iblk]
    congr 1
    blk_ext [index3]
  rw [he, merge_read, (stacked_split t r).1, (stacked_split t r).2]

theorem block4 (r : Fin 512) (k : Fin 1024) : (iblk m c 4 t (ix3 0 r k) : EReal) = arg4 m c (ix3 (batch t) (token t r) k) := by
  have he : (iblk m c 4 t (ix3 0 r k) : EReal) = V m c main_arg4 (ix3 (batch t) (token t r) k) := by
    blk_simp [iblk]
    congr 1
    blk_ext [index4]
  rw [he]
  unfold V
  after_reads_at

theorem block5 (j : Fin 6) (k : Fin 1024) : (iblk m c 5 t (ix3 0 j k) : EReal)
    = arg5 m c (ix2 (batch t) ⟨1024 * j.val + k.val, by omega⟩) := by
  have he : (iblk m c 5 t (ix3 0 j k) : EReal) = V m c main_v9 (ix3 ⟨(batch t).val, by omega⟩ j k) := by
    blk_simp [iblk]
    congr 1
    blk_ext [index5]
  rw [he, mod_read]

theorem block6 (k : Fin 1024) : (iblk m c 6 t (ix2 0 k) : EReal) = arg6 m c (ix1 k) := by
  refine Eq.trans ?_ (gain_read m c k)
  blk_simp [iblk]
  congr 1
  blk_ext [index6]

theorem block7 (k : Fin 1024) : (iblk m c 7 t (ix2 0 k) : EReal) = arg7 m c (ix1 k) := by
  refine Eq.trans ?_ (norm_read m c k)
  blk_simp [iblk]
  congr 1
  blk_ext [index7]

theorem block8 (i k : Fin 1024) : (iblk m c 8 t (ix2 i k) : EReal) = arg8 m c (ix2 i k) := by
  refine Eq.trans ?_ (weight_read m c i k).1
  blk_simp [iblk]
  congr 1
  blk_ext [index8]

theorem block9 (i k : Fin 1024) : (iblk m c 9 t (ix2 i k) : EReal) = arg9 m c (ix2 i k) := by
  refine Eq.trans ?_ (weight_read m c i k).2.1
  blk_simp [iblk]
  congr 1
  blk_ext [index9]

theorem block10 (i k : Fin 1024) : (iblk m c 10 t (ix2 i k) : EReal) = arg10 m c (ix2 i k) := by
  refine Eq.trans ?_ (weight_read m c i k).2.2
  blk_simp [iblk]
  congr 1
  blk_ext [index10]

theorem block11 (i : Fin 1024) (k : Fin 2816) : (iblk m c 11 t (ix2 i k) : EReal) = arg11 m c (ix2 i k) := by
  refine Eq.trans ?_ (up_read m c i k).1
  blk_simp [iblk]
  congr 1
  blk_ext [index11]

theorem block12 (i : Fin 1024) (k : Fin 2816) : (iblk m c 12 t (ix2 i k) : EReal) = arg12 m c (ix2 i k) := by
  refine Eq.trans ?_ (up_read m c i k).2
  blk_simp [iblk]
  congr 1
  blk_ext [index12]

theorem block13 (i : Fin 2816) (k : Fin 1024) : (iblk m c 13 t (ix2 i k) : EReal) = arg13 m c (ix2 i k) := by
  refine Eq.trans ?_ (down_read m c i k)
  blk_simp [iblk]
  congr 1
  blk_ext [index13]

end

end Cert.ChannelReads
-- ==== Proof.ChannelRefValue.lean ====
/- The reference of the channel call, read at a token: the same function of the token's row. -/
module

public import proofs.«01_k».proof.Proof.ChannelRow
public import proofs.«01_k».proof.Proof.Gen.ChannelReferenceIdeal.Read
public import Idealize.ShloMosaic.Lib.Pointwise

@[expose] public section

set_option maxRecDepth 16384

noncomputable section

namespace Cert.ChannelRefValue
open Cert.ChannelReferenceIdeal Cert.ChannelReferenceIdeal.Gen Cert.ChannelReferenceIdeal.Read
open Idealize.ShloMosaic Idealize.ShloMosaic.TcCoe Idealize.SL.Sem Idealize.ShloMosaic.StableHlo
open Cert.ChannelRow

variable (x0 : (⟨S4x8x8192x128, .f32⟩ : BufTy).Contents (Elt Ideal)) (x1 x2 : (⟨S4x8192x1024, .f32⟩ : BufTy).Contents (Elt Ideal))
  (x3 : (⟨S4x8192x2048, .f32⟩ : BufTy).Contents (Elt Ideal)) (x4 : (⟨S4x8192x1024, .f32⟩ : BufTy).Contents (Elt Ideal))
  (x5 : (⟨S4x6144, .f32⟩ : BufTy).Contents (Elt Ideal)) (x6 x7 : (⟨S1024, .f32⟩ : BufTy).Contents (Elt Ideal))
  (x8 x9 x10 : (⟨S1024x1024, .f32⟩ : BufTy).Contents (Elt Ideal)) (x11 x12 : (⟨S1024x2816, .f32⟩ : BufTy).Contents (Elt Ideal))
  (x13 : (⟨S2816x1024, .f32⟩ : BufTy).Contents (Elt Ideal)) (b : Fin 4) (s : Fin 8192)

/-- The mLSTM's row of a token: its heads side by side. -/
abbrev headRow (x0 : S4x8x8192x128.Idx → EReal) (b : Fin 4) (s : Fin 8192) : Fin 1024 → EReal :=
  fun k => x0 (ix4 b ⟨k.val / 128, by omega⟩ s ⟨k.val % 128, by omega⟩)
/-- A token's row of an array. -/
abbrev tokenRow {n : Nat} (x : (⟨3, ![4, 8192, n]⟩ : Shape).Idx → EReal) (b : Fin 4) (s : Fin 8192) : Fin n → EReal :=
  fun k => x (ix3 b s k)
/-- The `j`-th part of a batch's modulation. -/
abbrev modRow (x5 : S4x6144.Idx → EReal) (b : Fin 4) (j : Fin 6) : Fin 1024 → EReal :=
  fun k => x5 (ix2 b ⟨1024 * j.val + k.val, by omega⟩)
/-- A vector and a matrix, by their entries. -/
abbrev vec {n : Nat} (x : (⟨1, ![n]⟩ : Shape).Idx → EReal) : Fin n → EReal := fun k => x (ix1 k)
@[inherit_doc vec]
abbrev mat {a n : Nat} (x : (⟨2, ![a, n]⟩ : Shape).Idx → EReal) : Fin a → Fin n → EReal := fun j k => x (ix2 j k)

theorem gated_read (i : Fin 1024) : (val_main_v28 (F := Ideal) x0 x1 x6 (ix3 b s i) : EReal)
    = gated (headRow x0 b s) (vec x6) (tokenRow x1 b s) i := by
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_cst,
    val_main_cst_0, val_main_cst_1, val_main_cst_2, val_main_cst_3]
  unfold gated headNorm headScale
  congr 3
  refine congrArg (fun w => Ideal.rsqrt (Ideal.div w _ + _)) (Finset.sum_congr rfl fun x _ => ?_)
  have e : (⟨128 * (i.val / 128) + x.val, by omega⟩ : Fin 1024).val / 128 = i.val / 128 := by dsimp only; omega
  have e' : (⟨128 * (i.val / 128) + x.val, by omega⟩ : Fin 1024).val % 128 = x.val := by dsimp only; omega
  simp only [headRow, e, e']

theorem merged_read (i : Fin 1024) : (val_main_v41 (F := Ideal) x0 x1 x2 x3 x6 x8 x9 (ix3 b s i) : EReal)
    = merged (headRow x0 b s) (vec x6) (tokenRow x1 b s) (tokenRow x2 b s) (tokenRow x3 b s) (mat x8) (mat x9) i := by
  pointwise [val_main_v41, val_main_v40, val_main_v39, val_main_v38, val_main_v37, val_main_v36, val_main_v35,
    val_main_v34, val_main_v33, val_main_v32, val_main_v31, val_main_v30, val_main_v29, val_main_cst_4,
    val_main_cst_5, gated_read]
  rfl

theorem mixed_read (i : Fin 1024) : (val_main_v46 (F := Ideal) x0 x1 x2 x3 x4 x5 x6 x8 x9 x10 (ix3 b s i) : EReal)
    = mixed (headRow x0 b s) (vec x6) (tokenRow x1 b s) (tokenRow x2 b s) (tokenRow x3 b s) (tokenRow x4 b s) (modRow x5 b 2)
        (mat x8) (mat x9) (mat x10) i := by
  pointwise [val_main_v46, val_main_v45, val_main_v44, val_main_v43, val_main_v42, val_main_v2, merged_read]
  rfl

theorem modulated_read (i : Fin 1024) : (val_main_v67 (F := Ideal) x0 x1 x2 x3 x4 x5 x6 x7 x8 x9 x10 (ix3 b s i) : EReal)
    = modulated (tokenRow (val_main_v46 (F := Ideal) x0 x1 x2 x3 x4 x5 x6 x8 x9 x10) b s) (vec x7) (modRow x5 b 4) (modRow x5 b 3) i := by
  pointwise [val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_v50, val_main_v49, val_main_v48, val_main_v47, val_main_v3, val_main_v4,
    val_main_cst_6, val_main_cst_7, val_main_cst_8, val_main_cst_9]
  rfl

theorem value_read (i : Fin 1024) :
    (val_main_v76 (F := Ideal) x0 x1 x2 x3 x4 x5 x6 x7 x8 x9 x10 x11 x12 x13 (ix3 b s i) : EReal)
    = finish (mixed (headRow x0 b s) (vec x6) (tokenRow x1 b s) (tokenRow x2 b s) (tokenRow x3 b s) (tokenRow x4 b s)
          (modRow x5 b 2) (mat x8) (mat x9) (mat x10))
        (vec x7) (modRow x5 b 4) (modRow x5 b 3) (modRow x5 b 5) (mat x11) (mat x12) (mat x13) i := by
  pointwise [val_main_v76, val_main_v75, val_main_v74, val_main_v73, val_main_v72, val_main_v71, val_main_v70,
    val_main_v69, val_main_v68, val_main_v5, val_main_call0_v5, val_main_call0_v4, val_main_call0_v3,
    val_main_call0_v2, val_main_call0_v1, val_main_call0_v0, val_main_call0_cst, val_main_call0_cst_0, modulated_read]
  rw [show tokenRow (val_main_v46 (F := Ideal) x0 x1 x2 x3 x4 x5 x6 x8 x9 x10) b s = _ from funext (mixed_read x0 x1 x2 x3 x4 x5 x6 x8 x9 x10 b s),
    mixed_read]
  rfl

end Cert.ChannelRefValue
-- ==== Proof.ChannelClaims.lean ====
/- The claims of the channel call: its runs, and its value. -/
module

public import proofs.«01_k».proof.Defs
public import proofs.«01_k».proof.Proof.Gen.Channel.Frame
public import proofs.«01_k».proof.Proof.Gen.ChannelReferenceIdeal.Run
public import proofs.«01_k».proof.Proof.ChannelReads
public import proofs.«01_k».proof.Proof.ChannelRefValue
public import Idealize.ShloMosaic.Lib.Quiescent

@[expose] public section

set_option maxRecDepth 16384

noncomputable section

namespace Cert.ChannelClaims
open Idealize.ShloMosaic Idealize.ShloMosaic.TcCoe Idealize.SL.Sem
open Cert.ChannelReads Cert.ChannelTile

theorem frame_kernel : Cert.quiescent_Channel := fun m ρ _ => Cert.Channel.Gen.frame m ρ

theorem frame_ideal : Cert.quiescent_ChannelIdeal := fun m ρ _ => Cert.ChannelIdeal.Gen.frame m ρ

/-- The reference's run, read at its arguments; it has no semaphore. -/
theorem frame_reference : Cert.quiescent_ChannelReferenceIdeal := fun m ρ _ =>
  (θ_run Cert.ChannelReferenceIdeal.defs _ _).mono (fun r h => ⟨fun c => (h c).2,
      Idealize.ShloMosaic.sem_eq_zero_of_no_sems (by decide) r.2⟩)
    (Cert.ChannelReferenceIdeal.Value.run (F := Ideal) m ρ)

section
open Cert.ChannelIdeal Cert.ChannelIdeal.Gen Cert.ChannelRefValue

variable (m : (ℓ : Loc nD τ sig) → Buf (Elt Ideal) ℓ) (c : Dev nD)

/-- The reference's function of the kernel's arguments. -/
def expected : S4x8192x1024.Idx → EReal :=
  Cert.ChannelReferenceIdeal.Read.val_main_v76 (F := Ideal) (arg0 m c) (arg1 m c) (arg2 m c) (arg3 m c) (arg4 m c)
    (arg5 m c) (arg6 m c) (arg7 m c) (arg8 m c) (arg9 m c) (arg10 m c) (arg11 m c) (arg12 m c) (arg13 m c)

/-- An element of a point's block. -/
theorem point (t : Fin cfg0.N) (r : Fin 512) (i : Fin 1024) :
    out0_14 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (ix3 0 r i)
      = expected m c (ix3 (batch t) (token t r) i) := by
  have e0 : rowOf (iblk m c 0 t) r = headRow (arg0 m c) (batch t) (token t r) := funext (block0 m c t r)
  have e1 : rowOf (iblk m c 1 t) r = tokenRow (arg1 m c) (batch t) (token t r) := funext (block1 m c t r)
  have e2 : rowOf (iblk m c 2 t) r = tokenRow (arg2 m c) (batch t) (token t r) := funext (block2 m c t r)
  have e3 : rowOf (iblk m c 3 t) r = tokenRow (arg3 m c) (batch t) (token t r) := funext (block3 m c t r)
  have e4 : (fun k => iblk m c 4 t (ix3 0 r k)) = tokenRow (arg4 m c) (batch t) (token t r) := funext (block4 m c t r)
  have e5 : ∀ j : Fin 6, (fun k => iblk m c 5 t (ix3 0 j k)) = modRow (arg5 m c) (batch t) j := fun j => funext (block5 m c t j)
  have e6 : rowOf (iblk m c 6 t) 0 = vec (arg6 m c) := funext (block6 m c t)
  have e7 : rowOf (iblk m c 7 t) 0 = vec (arg7 m c) := funext (block7 m c t)
  have e8 : rowOf (iblk m c 8 t) = mat (arg8 m c) := funext fun i => funext (block8 m c t i)
  have e9 : rowOf (iblk m c 9 t) = mat (arg9 m c) := funext fun i => funext (block9 m c t i)
  have e10 : rowOf (iblk m c 10 t) = mat (arg10 m c) := funext fun i => funext (block10 m c t i)
  have e11 : rowOf (iblk m c 11 t) = mat (arg11 m c) := funext fun i => funext (block11 m c t i)
  have e12 : rowOf (iblk m c 12 t) = mat (arg12 m c) := funext fun i => funext (block12 m c t i)
  have e13 : rowOf (iblk m c 13 t) = mat (arg13 m c) := funext fun i => funext (block13 m c t i)
  unfold expected
  refine Eq.trans ?_ (value_read _ _ _ _ _ _ _ _ _ _ _ _ _ _ (batch t) (token t r) i).symm
  refine (out_eq _ _ _ _ _ _ _ _ _ _ _ _ _ _ r i).trans ?_
  rw [e0, e1, e2, e3, e4, e5, e5, e5, e5, e6, e7, e8, e9, e10, e11, e12, e13]

/-- The kernel's array after the run is the reference's function of the arguments. -/
theorem result : (dats m 0 c).arrAt 14 cfg0.N = expected m c := by
  refine (dats m 0 c).arrAt_eq_of_covers 14 _ (by decide +kernel) fun t hf y => ?_
  blk_simp
  rw [after0_14]
  have hN : t.val < 64 := t.isLt
  have y0 : (y 0).val < 1 := (y 0).isLt
  have y1 : (y 1).val < 512 := (y 1).isLt
  have y2 : (y 2).val < 1024 := (y 2).isLt
  have hy : y = ix3 (0 : Fin 1) (⟨(y 1).val, y1⟩ : Fin 512) (⟨(y 2).val, y2⟩ : Fin 1024) := by
    funext a
    match a with
    | ⟨0, _⟩ => exact Fin.ext (show (y 0).val = 0 by omega)
    | ⟨1, _⟩ => rfl
    | ⟨2, _⟩ => rfl
  generalize (⟨(y 1).val, y1⟩ : Fin 512) = r at hy
  generalize (⟨(y 2).val, y2⟩ : Fin 1024) = i at hy
  subst hy
  have hemb : (win0_14.blk t).view.emb (ix3 (0 : Fin 1) r i) = ix3 (batch t) (token t r) i := by
    blk_ext [index14]
  rw [hemb]
  exact point m c t r i

end

theorem value : Cert.algebraic_ChannelIdeal_ChannelReferenceIdeal := fun m ρ m' ρ' _ hag =>
  ⟨fun c => (Cert.ChannelIdeal.Gen.dats m 0 c).arrAt 14 Cert.ChannelIdeal.cfg0.N,
    Cert.ChannelIdeal.Value.run_blocks m ρ,
    (θ_run Cert.ChannelReferenceIdeal.defs _ _).mono (fun r h c => ⟨by
        obtain ⟨h0, h1, h2, h3, h4, h5, h6, h7, h8, h9, h10, h11, h12, h13⟩ := hag c
        refine (h c).1.trans ((Cert.ChannelReferenceIdeal.Read.val_main_v76_eq m' c).trans ?_)
        rw [h0, h1, h2, h3, h4, h5, h6, h7, h8, h9, h10, h11, h12, h13]
        exact (result m c).symm, (h c).2⟩)
      (Cert.ChannelReferenceIdeal.Value.run (F := Ideal) m' ρ')⟩

end Cert.ChannelClaims
-- ==== Proof.lean ====
/- The certificate's claims, assembled. -/
module

public import proofs.«01_k».proof.Defs
public import proofs.«01_k».proof.Proof.Attention
public import proofs.«01_k».proof.Proof.ChannelClaims

@[expose] public section

theorem Cert.Proof.claim : Cert.Claim :=
  ⟨Cert.Kernel.Gen.facts, Cert.KernelIdeal.Gen.facts, Cert.ReferenceIdeal.Gen.facts, Cert.Channel.Gen.facts,
    Cert.ChannelIdeal.Gen.facts, Cert.ChannelReferenceIdeal.Gen.facts, Cert.Finite.facts,
    Cert.Attention.frame_kernel, Cert.Attention.frame_ideal, fun m ρ _ => Cert.KernelIdeal.Gen.frame m ρ,
    Cert.Attention.frame_reference, fun m ρ _ => Cert.Attention.frame_reference m ρ trivial,
    Cert.ChannelClaims.frame_kernel, Cert.ChannelClaims.frame_ideal, Cert.ChannelClaims.frame_reference,
    trivial, Cert.Attention.value, trivial, Cert.ChannelClaims.value⟩
